-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_max_outside_first_block [hPre_max_outside_first_block : Cert.Pre_max_outside_first_block.Facts] (m : (ℓ : Loc Cert.KernelIdeal.nD Cert.KernelIdeal.τ Cert.KernelIdeal.sig) → Buf (Elt Ideal) ℓ) : Prop :=
  ∀ c : Dev Cert.KernelIdeal.nD,
    (Cert.Pre_max_outside_first_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_max_outside_first_block [hPre_max_outside_first_block : Cert.Pre_max_outside_first_block.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_max_outside_first_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_max_outside_first_block [hKernelIdeal : Cert.KernelIdeal.Facts] [hPre_max_outside_first_block : Cert.Pre_max_outside_first_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_max_outside_first_block m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_max_outside_first_block [hReferenceIdeal : Cert.ReferenceIdeal.Facts] [hPre_max_outside_first_block : Cert.Pre_max_outside_first_block.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_max_outside_first_block m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_max_outside_first_block [hKernelIdeal : Cert.KernelIdeal.Facts] [hReferenceIdeal : Cert.ReferenceIdeal.Facts] [hPre_max_outside_first_block : Cert.Pre_max_outside_first_block.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_max_outside_first_block m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v66)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_max_outside_first_block : Cert.Pre_max_outside_first_block.Facts),
    quiescent_Kernel (hKernel := hKernel)
    ∧ quiescent_KernelIdeal (hKernelIdeal := hKernelIdeal)
    ∧ quiescent_KernelIdeal_pre_max_outside_first_block (hKernelIdeal := hKernelIdeal) (hPre_max_outside_first_block := hPre_max_outside_first_block)
    ∧ quiescent_ReferenceIdeal (hReferenceIdeal := hReferenceIdeal)
    ∧ quiescent_ReferenceIdeal_pre_max_outside_first_block (hReferenceIdeal := hReferenceIdeal) (hPre_max_outside_first_block := hPre_max_outside_first_block)
    ∧ preserves_Kernel_KernelIdeal
    ∧ algebraic_KernelIdeal_ReferenceIdeal_pre_max_outside_first_block (hKernelIdeal := hKernelIdeal) (hReferenceIdeal := hReferenceIdeal) (hPre_max_outside_first_block := hPre_max_outside_first_block)
-- ==== Pre_max_outside_first_block.lean ====
abbrev S6x1536x16384 : Shape := ⟨3, ![6, 1536, 16384]⟩
abbrev S16384x6144 : Shape := ⟨2, ![16384, 6144]⟩
abbrev S_ : Shape := ⟨0, ![]⟩

class Facts : Prop where
  bitsLt_bf16_f32 : FTy.bits .bf16 < FTy.bits .f32
  bcast_S_S6x1536x16384 : S_.BroadcastsInDim S6x1536x16384 (![] : Fin 0 → Fin S6x1536x16384.rank)
  reducesTo_S6x1536x16384_S_d0_1_2 : S6x1536x16384.ReducesTo [0, 1, 2] S_
  h_S_ : 0 < S_.numel

variable [Facts]

def fn_where {F : FTy → Type} [FloatOps F] (arg0 : IVec S6x1536x16384 1) (arg1 : FVec F S_ .f32) (arg2 : FVec F S6x1536x16384 .f32) : FVec F S6x1536x16384 .f32 :=
  let v0 : FVec F S_ .f32 := id arg1
  let v1 : FVec F S6x1536x16384 .f32 := broadcastInDim S6x1536x16384 ![] bcast_S_S6x1536x16384 v0
  let v2 : FVec F S6x1536x16384 .f32 := select arg0 v1 arg2
  v2

def fn {F : FTy → Type} [FloatOps F] (main_arg0 : FVec F S6x1536x16384 .bf16) (main_arg1 : FVec F S16384x6144 .fp8e4m3) (main_arg2 : FVec F S_ .f32) : IVec S_ 1 :=
  let main_v0 : FVec F S6x1536x16384 .f32 := (extf .f32 · bitsLt_bf16_f32) main_arg0
  let main_v1 : FVec F S6x1536x16384 .f32 := Host.absf main_v0
  let main_v2 : IVec S6x1536x16384 32 := iotaInDim S6x1536x16384 32 0
  let main_v3 : IVec S6x1536x16384 32 := iotaInDim S6x1536x16384 32 1
  let main_v4 : IVec S6x1536x16384 32 := iotaInDim S6x1536x16384 32 2
  let main_c : IVec S_ 32 := constantI S_ 32 1#32
  let main_v5 : IVec S6x1536x16384 32 := broadcastInDim S6x1536x16384 ![] bcast_S_S6x1536x16384 main_c
  let main_v6 : IVec S6x1536x16384 1 := cmpi .slt main_v2 main_v5
  let main_c_0 : IVec S_ 32 := constantI S_ 32 256#32
  let main_v7 : IVec S6x1536x16384 32 := broadcastInDim S6x1536x16384 ![] bcast_S_S6x1536x16384 main_c_0
  let main_v8 : IVec S6x1536x16384 1 := cmpi .slt main_v3 main_v7
  let main_v9 : IVec S6x1536x16384 1 := andi main_v6 main_v8
  let main_c_1 : IVec S_ 32 := constantI S_ 32 8192#32
  let main_v10 : IVec S6x1536x16384 32 := broadcastInDim S6x1536x16384 ![] bcast_S_S6x1536x16384 main_c_1
  let main_v11 : IVec S6x1536x16384 1 := cmpi .slt main_v4 main_v10
  let main_v12 : IVec S6x1536x16384 1 := andi main_v9 main_v11
  let main_cst : FVec F S_ .f32 := constant S_ .f32 0xFF800000#32
  let main_v13 : FVec F S_ .f32 := (fun x v => Host.reduce FloatOps.maximumf x v reducesTo_S6x1536x16384_S_d0_1_2 h_S_) main_v1 main_cst
  let main_cst_2 : FVec F S_ .f32 := constant S_ .f32 0x00000000#32
  let main_v14 : FVec F S6x1536x16384 .f32 := fn_where (F := F) main_v12 main_cst_2 main_v1
  let main_cst_3 : FVec F S_ .f32 := constant S_ .f32 0xFF800000#32
  let main_v15 : FVec F S_ .f32 := (fun x v => Host.reduce FloatOps.maximumf x v reducesTo_S6x1536x16384_S_d0_1_2 h_S_) main_v14 main_cst_3
  let main_v16 : IVec S_ 1 := cmpf .ole main_v13 main_v15
  main_v16
-- ==== Kernel.lean ====
abbrev S6x1536x16384 : Shape := ⟨3, ![6, 1536, 16384]⟩
abbrev S16384x6144 : Shape := ⟨2, ![16384, 6144]⟩
abbrev S_ : Shape := ⟨0, ![]⟩
abbrev S9216x16384 : Shape := ⟨2, ![9216, 16384]⟩
abbrev S8x128 : Shape := ⟨2, ![8, 128]⟩
abbrev S256x8192 : Shape := ⟨2, ![256, 8192]⟩
abbrev S32x8x64x128 : Shape := ⟨4, ![32, 8, 64, 128]⟩
abbrev S252 : Shape := ⟨1, ![252]⟩
abbrev S1 : Shape := ⟨1, ![1]⟩
abbrev S9216x6144 : Shape := ⟨2, ![9216, 6144]⟩
abbrev S1024x16384 : Shape := ⟨2, ![1024, 16384]⟩
abbrev S16384x512 : Shape := ⟨2, ![16384, 512]⟩
abbrev S1024x512 : Shape := ⟨2, ![1024, 512]⟩
abbrev S128x8x4x128 : Shape := ⟨4, ![128, 8, 4, 128]⟩
abbrev S512x6144 : Shape := ⟨2, ![512, 6144]⟩
abbrev S6x1536x6144 : Shape := ⟨3, ![6, 1536, 6144]⟩

abbrev nBuf : Space → Nat
  | .hbm => 113
  | .vmem => 18
  | .smem => 3
  | _ => 0

abbrev bufTy : (tb : Table) → Fin (tcTables nBuf tb) → BufTy
  | .hbm, ⟨0, _⟩ => ⟨S6x1536x16384, .bf16⟩
  | .hbm, ⟨1, _⟩ => ⟨S16384x6144, .fp8e4m3⟩
  | .hbm, ⟨2, _⟩ => ⟨S_, .f32⟩
  | .hbm, ⟨3, _⟩ => ⟨S9216x16384, .bf16⟩
  | .hbm, ⟨4, _⟩ => ⟨S8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S252, .i32⟩
  | .hbm, ⟨10, _⟩ => ⟨S_, .i32⟩
  | .hbm, ⟨11, _⟩ => ⟨S252, .i32⟩
  | .hbm, ⟨12, _⟩ => ⟨S252, .i32⟩
  | .hbm, ⟨13, _⟩ => ⟨S_, .i32⟩
  | .hbm, ⟨14, _⟩ => ⟨S252, .i32⟩
  | .hbm, ⟨15, _⟩ => ⟨S252, .i32⟩
  | .hbm, ⟨16, _⟩ => ⟨S252, .f32⟩
  | .hbm, ⟨17, _⟩ => ⟨S252, .f32⟩
  | .hbm, ⟨18, _⟩ => ⟨S252, .i1⟩
  | .hbm, ⟨19, _⟩ => ⟨S_, .i32⟩
  | .hbm, ⟨20, _⟩ => ⟨S_, .i32⟩
  | .hbm, ⟨21, _⟩ => ⟨S252, .i32⟩
  | .hbm, ⟨22, _⟩ => ⟨S252, .i32⟩
  | .hbm, ⟨23, _⟩ => ⟨S252, .i32⟩
  | .hbm, ⟨24, _⟩ => ⟨S252, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .i1⟩
  | .hbm, ⟨33, _⟩ => ⟨S_, .i1⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S1, .f32⟩
  | .hbm, ⟨55, _⟩ => ⟨S9216x16384, .fp8e4m3⟩
  | .hbm, ⟨56, _⟩ => ⟨S_, .f32⟩
  | .hbm, ⟨57, _⟩ => ⟨S1, .f32⟩
  | .hbm, ⟨58, _⟩ => ⟨S9216x6144, .f32⟩
  | .hbm, ⟨59, _⟩ => ⟨S8x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S252, .i32⟩
  | .hbm, ⟨65, _⟩ => ⟨S_, .i32⟩
  | .hbm, ⟨66, _⟩ => ⟨S252, .i32⟩
  | .hbm, ⟨67, _⟩ => ⟨S252, .i32⟩
  | .hbm, ⟨68, _⟩ => ⟨S_, .i32⟩
  | .hbm, ⟨69, _⟩ => ⟨S252, .i32⟩
  | .hbm, ⟨70, _⟩ => ⟨S252, .i32⟩
  | .hbm, ⟨71, _⟩ => ⟨S252, .f32⟩
  | .hbm, ⟨72, _⟩ => ⟨S252, .f32⟩
  | .hbm, ⟨73, _⟩ => ⟨S252, .i1⟩
  | .hbm, ⟨74, _⟩ => ⟨S_, .i32⟩
  | .hbm, ⟨75, _⟩ => ⟨S_, .i32⟩
  | .hbm, ⟨76, _⟩ => ⟨S252, .i32⟩
  | .hbm, ⟨77, _⟩ => ⟨S252, .i32⟩
  | .hbm, ⟨78, _⟩ => ⟨S252, .i32⟩
  | .hbm, ⟨79, _⟩ => ⟨S252, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .i1⟩
  | .hbm, ⟨88, _⟩ => ⟨S_, .i1⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .f32⟩
  | .hbm, ⟨109, _⟩ => ⟨S1, .f32⟩
  | .hbm, ⟨110, _⟩ => ⟨S9216x6144, .fp8e4m3⟩
  | .hbm, ⟨111, _⟩ => ⟨S6x1536x6144, .fp8e4m3⟩
  | .hbm, ⟨112, _⟩ => ⟨S6x1536x16384, .fp8e4m3⟩
  | .local _ .vmem, ⟨0, _⟩ => ⟨S256x8192, .bf16⟩
  | .local _ .vmem, ⟨1, _⟩ => ⟨S256x8192, .bf16⟩
  | .local _ .vmem, ⟨2, _⟩ => ⟨S8x128, .f32⟩
  | .local _ .vmem, ⟨3, _⟩ => ⟨S256x8192, .bf16⟩
  | .local _ .vmem, ⟨4, _⟩ => ⟨S256x8192, .bf16⟩
  | .local _ .vmem, ⟨5, _⟩ => ⟨S256x8192, .fp8e4m3⟩
  | .local _ .vmem, ⟨6, _⟩ => ⟨S256x8192, .fp8e4m3⟩
  | .local _ .vmem, ⟨7, _⟩ => ⟨S1024x16384, .fp8e4m3⟩
  | .local _ .vmem, ⟨8, _⟩ => ⟨S1024x16384, .fp8e4m3⟩
  | .local _ .vmem, ⟨9, _⟩ => ⟨S16384x512, .fp8e4m3⟩
  | .local _ .vmem, ⟨10, _⟩ => ⟨S16384x512, .fp8e4m3⟩
  | .local _ .vmem, ⟨11, _⟩ => ⟨S1024x512, .f32⟩
  | .local _ .vmem, ⟨12, _⟩ => ⟨S1024x512, .f32⟩
  | .local _ .vmem, ⟨13, _⟩ => ⟨S8x128, .f32⟩
  | .local _ .vmem, ⟨14, _⟩ => ⟨S512x6144, .f32⟩
  | .local _ .vmem, ⟨15, _⟩ => ⟨S512x6144, .f32⟩
  | .local _ .vmem, ⟨16, _⟩ => ⟨S512x6144, .fp8e4m3⟩
  | .local _ .vmem, ⟨17, _⟩ => ⟨S512x6144, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_call1_v0 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_c_10 : Ref sig .tc := ⟨.hbm, 40, rfl⟩
abbrev main_call2_v0 : Ref sig .tc := ⟨.hbm, 41, rfl⟩
abbrev main_v22 : Ref sig .tc := ⟨.hbm, 42, rfl⟩
abbrev main_c_11 : Ref sig .tc := ⟨.hbm, 43, rfl⟩
abbrev main_v23 : Ref sig .tc := ⟨.hbm, 44, rfl⟩
abbrev main_c_12 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_13 : Ref sig .tc := ⟨.hbm, 49, rfl⟩
abbrev main_v27 : Ref sig .tc := ⟨.hbm, 50, rfl⟩
abbrev main_c_14 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_cst_15 : Ref sig .tc := ⟨.hbm, 60, rfl⟩
abbrev main_v35 : Ref sig .tc := ⟨.hbm, 61, rfl⟩
abbrev main_cst_16 : Ref sig .tc := ⟨.hbm, 62, rfl⟩
abbrev main_v36 : Ref sig .tc := ⟨.hbm, 63, rfl⟩
abbrev main_v37 : Ref sig .tc := ⟨.hbm, 64, rfl⟩
abbrev main_c_17 : Ref sig .tc := ⟨.hbm, 65, rfl⟩
abbrev main_v38 : Ref sig .tc := ⟨.hbm, 66, rfl⟩
abbrev main_v39 : Ref sig .tc := ⟨.hbm, 67, rfl⟩
abbrev main_c_18 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_19 : Ref sig .tc := ⟨.hbm, 74, rfl⟩
abbrev main_c_20 : Ref sig .tc := ⟨.hbm, 75, rfl⟩
abbrev main_call3_v0 : Ref sig .tc := ⟨.hbm, 76, rfl⟩
abbrev main_call3_v1 : Ref sig .tc := ⟨.hbm, 77, rfl⟩
abbrev main_v45 : Ref sig .tc := ⟨.hbm, 78, rfl⟩
abbrev main_v46 : Ref sig .tc := ⟨.hbm, 79, rfl⟩
abbrev main_c_21 : Ref sig .tc := ⟨.hbm, 80, rfl⟩
abbrev main_v47 : Ref sig .tc := ⟨.hbm, 81, rfl⟩
abbrev main_c_22 : Ref sig .tc := ⟨.hbm, 82, rfl⟩
abbrev main_v48 : Ref sig .tc := ⟨.hbm, 83, rfl⟩
abbrev main_cst_23 : Ref sig .tc := ⟨.hbm, 84, rfl⟩
abbrev main_v49 : Ref sig .tc := ⟨.hbm, 85, rfl⟩
abbrev main_cst_24 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_25 : Ref sig .tc := ⟨.hbm, 90, rfl⟩
abbrev main_call4_v0 : Ref sig .tc := ⟨.hbm, 91, rfl⟩
abbrev main_v53 : Ref sig .tc := ⟨.hbm, 92, rfl⟩
abbrev main_cst_26 : Ref sig .tc := ⟨.hbm, 93, rfl⟩
abbrev main_v54 : Ref sig .tc := ⟨.hbm, 94, rfl⟩
abbrev main_c_27 : Ref sig .tc := ⟨.hbm, 95, rfl⟩
abbrev main_call5_v0 : Ref sig .tc := ⟨.hbm, 96, rfl⟩
abbrev main_v55 : Ref sig .tc := ⟨.hbm, 97, rfl⟩
abbrev main_c_28 : Ref sig .tc := ⟨.hbm, 98, rfl⟩
abbrev main_v56 : Ref sig .tc := ⟨.hbm, 99, rfl⟩
abbrev main_c_29 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_30 : Ref sig .tc := ⟨.hbm, 104, rfl⟩
abbrev main_v60 : Ref sig .tc := ⟨.hbm, 105, rfl⟩
abbrev main_c_31 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc1_stg0_0 : Ref sig .tc := ⟨.smem, 0, rfl⟩
abbrev cc2_stg0_0 : Ref sig .tc := ⟨.smem, 1, rfl⟩
abbrev cc3_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![36, 2], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![9, 12], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x16384 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S16384x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![18, 1], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S512x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x6144 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceIdeal.lean ====
abbrev S6x1536x16384 : Shape := ⟨3, ![6, 1536, 16384]⟩
abbrev S16384x6144 : Shape := ⟨2, ![16384, 6144]⟩
abbrev S_ : Shape := ⟨0, ![]⟩
abbrev S9216x16384 : Shape := ⟨2, ![9216, 16384]⟩
abbrev S1x1 : Shape := ⟨2, ![1, 1]⟩
abbrev S9216x6144 : Shape := ⟨2, ![9216, 6144]⟩
abbrev S1x9216x16384 : Shape := ⟨3, ![1, 9216, 16384]⟩
abbrev S1 : Shape := ⟨1, ![1]⟩
abbrev S1x1x1 : Shape := ⟨3, ![1, 1, 1]⟩
abbrev S1x9216x6144 : Shape := ⟨3, ![1, 9216, 6144]⟩
abbrev S6x1536x6144 : Shape := ⟨3, ![6, 1536, 6144]⟩

abbrev nBuf : Space → Nat
  | .hbm => 15
  | .vmem => 8
  | .smem => 0
  | _ => 0

abbrev bufTy : (tb : Table) → Fin (tcTables nBuf tb) → BufTy
  | .hbm, ⟨0, _⟩ => ⟨S6x1536x16384, .bf16⟩
  | .hbm, ⟨1, _⟩ => ⟨S16384x6144, .fp8e4m3⟩
  | .hbm, ⟨2, _⟩ => ⟨S_, .f32⟩
  | .hbm, ⟨3, _⟩ => ⟨S9216x16384, .bf16⟩
  | .hbm, ⟨4, _⟩ => ⟨S1x1, .f32⟩
  | .hbm, ⟨5, _⟩ => ⟨S9216x6144, .fp8e4m3⟩
  | .hbm, ⟨6, _⟩ => ⟨S1x1, .f32⟩
  | .hbm, ⟨7, _⟩ => ⟨S1x1, .f32⟩
  | .hbm, ⟨8, _⟩ => ⟨S9216x16384, .fp8e4m3⟩
  | .hbm, ⟨9, _⟩ => ⟨S1x1, .f32⟩
  | .hbm, ⟨10, _⟩ => ⟨S6x1536x6144, .fp8e4m3⟩
  | .hbm, ⟨11, _⟩ => ⟨S_, .f32⟩
  | .hbm, ⟨12, _⟩ => ⟨S_, .f32⟩
  | .hbm, ⟨13, _⟩ => ⟨S6x1536x16384, .fp8e4m3⟩
  | .hbm, ⟨14, _⟩ => ⟨S_, .f32⟩
  | .local _ .vmem, ⟨0, _⟩ => ⟨S9216x16384, .bf16⟩
  | .local _ .vmem, ⟨1, _⟩ => ⟨S16384x6144, .fp8e4m3⟩
  | .local _ .vmem, ⟨2, _⟩ => ⟨S1x1, .f32⟩
  | .local _ .vmem, ⟨3, _⟩ => ⟨S9216x6144, .fp8e4m3⟩
  | .local _ .vmem, ⟨4, _⟩ => ⟨S1x1, .f32⟩
  | .local _ .vmem, ⟨5, _⟩ => ⟨S1x1, .f32⟩
  | .local _ .vmem, ⟨6, _⟩ => ⟨S9216x16384, .fp8e4m3⟩
  | .local _ .vmem, ⟨7, _⟩ => ⟨S1x1, .f32⟩
  | _, _ => ⟨S6x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9216x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Run.lean ====
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run with its values: every execution ends with every buffer that is not a region's own scratch at the
    contents `W21` that the fold through @main computes. -/
theorem run_values : θ_run defs (onTc (τ := τ) (main (F := F))) ⟨m, fun _ => 0, ρ⟩ (fun r => ∀ c : Dev nD, ∀ b ∈ Pipeline.ucRefs τ sig,
      r.2.mem ((c : Thread nD τ).1, b) = W21 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => h)

end Cert.KernelIdeal.Gen
-- ==== Proof.Outs.lean ====
module

public import proofs.«01_k».proof.Proof.Gen.KernelIdeal.Frame
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

/-- The start of a whole matrix is zero on both axes. -/
theorem hz2 : (![0, 0] : Fin 2 → Nat) = fun _ => 0 := funext fun a => by fin_cases a <;> rfl
/-- The start of a whole vector is zero. -/
theorem hz1 : (![0] : Fin 1 → Nat) = fun _ => 0 := funext fun a => by fin_cases a <;> rfl

/-- The one index of a one-element array. -/
abbrev z1 : S1.Idx := fun a => ⟨0, by fin_cases a; decide⟩
/-- Every index of a one-element array is that one. -/
theorem z1_eq (i : S1.Idx) : i = z1 := by
  funext a; apply Fin.ext; have := (i a).isLt; fin_cases a; simp at this ⊢; omega

/-- A one-element array loaded through the rectangle that is all of it, at its first index, is its one element. -/
theorem ld_word (x0 : Vec F S1 .f32) (inb : ∀ a, (![0] : Fin 1 → Nat) a + (![1] : Fin 1 → Nat) a ≤ S1.size a)
    (h : 0 < (Rect.unit (s := S1) ![0] ![1] inb).shape.numel) :
    View.ld x0 (Rect.unit (s := S1) ![0] ![1] inb) (Shape.Idx.first h) = x0 z1 := congrArg x0 (z1_eq _)

/-- The maximum pass at a point past the reset leaves the running maximum joined with the block's. -/
theorem out0_B (c : Dev nD) (i : grid0.Coords) (a2 : Memref sig .tc .vmem S256x8192 .bf16) (h2 : a2.IsWhole)
    (a3 : Memref sig .tc .vmem S8x128 .f32) (h3 : a3.IsWhole) (hc : ¬cond0_0 i) (x : Vec F S256x8192 .bf16) (xo : Vec F S8x128 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S8x128) hz2, View.ld_unit_zero (S := S256x8192) hz2]

/-- The maximum pass at a reset point leaves the block's maximum over the zero block. -/
theorem out0_A (c : Dev nD) (i : grid0.Coords) (a2 : Memref sig .tc .vmem S256x8192 .bf16) (h2 : a2.IsWhole)
    (a3 : Memref sig .tc .vmem S8x128 .f32) (h3 : a3.IsWhole) (hc : cond0_0 i) (x : Vec F S256x8192 .bf16) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S256x8192) hz2]

/-- The first quantiser leaves its payload of the block and the inverse scale's one element. -/
theorem out1_A (c : Dev nD) (i : grid1.Coords) (a2 : Memref sig .tc .smem S1 .f32) (h2 : a2.IsWhole)
    (a3 : Memref sig .tc .vmem S256x8192 .bf16) (h3 : a3.IsWhole) (a4 : Memref sig .tc .vmem S256x8192 .fp8e4m3) (h4 : a4.IsWhole)
    (x0 : Vec F S1 .f32) (x1 : Vec F S256x8192 .bf16) :
    out1_A_2 c i a2 h2 a3 h3 a4 h4 x0 x1 = k1_pay1 x1 (x0 z1) := by
  unfold out1_A_2
  rw [View.read_writes_eq_canon _ _ _ (cover1_A_2 c i a2 h2 a3 h3 a4 h4 x0 x1)]
  unfold kernelRun1_A
  dsimp only
  sl_unfold_words
  rw [View.canon_unit_zero hz2]
  simp only [View.readAt_eq_ld, h2.read_unread, h3.read_unread, View.ld_unit_zero (S := S256x8192) hz2, View.ld_unit_zero (S := S1) hz1]
  rw [ld_word]

/-- The second quantiser leaves its payload of the block and the inverse scale's one element. -/
theorem out3_A (c : Dev nD) (i : grid3.Coords) (a2 : Memref sig .tc .smem S1 .f32) (h2 : a2.IsWhole)
    (a3 : Memref sig .tc .vmem S512x6144 .f32) (h3 : a3.IsWhole) (a4 : Memref sig .tc .vmem S512x6144 .fp8e4m3) (h4 : a4.IsWhole)
    (x0 : Vec F S1 .f32) (x1 : Vec F S512x6144 .f32) :
    out3_A_2 c i a2 h2 a3 h3 a4 h4 x0 x1 = k3_pay1 x1 (x0 z1) := by
  unfold out3_A_2
  rw [View.read_writes_eq_canon _ _ _ (cover3_A_2 c i a2 h2 a3 h3 a4 h4 x0 x1)]
  unfold kernelRun3_A
  dsimp only
  sl_unfold_words
  rw [View.canon_unit_zero hz2]
  simp only [View.readAt_eq_ld, h2.read_unread, h3.read_unread, View.ld_unit_zero (S := S512x6144) hz2, View.ld_unit_zero (S := S1) hz1]
  rw [ld_word]

section R2
variable (c : Dev nD) (i : grid2.Coords) (a2 : Memref sig .tc .smem S1 .f32) (h2 : a2.IsWhole)
    (a3 : Memref sig .tc .vmem S1024x16384 .fp8e4m3) (h3 : a3.IsWhole) (a4 : Memref sig .tc .vmem S16384x512 .fp8e4m3) (h4 : a4.IsWhole)
    (a5 : Memref sig .tc .vmem S1024x512 .f32) (h5 : a5.IsWhole) (a6 : Memref sig .tc .vmem S8x128 .f32) (h6 : a6.IsWhole)
    (x0 : Vec F S1 .f32) (x1 : Vec F S1024x16384 .fp8e4m3) (x2 : Vec F S16384x512 .fp8e4m3) (xo : Vec F S8x128 .f32)

/-- The matrix product's tile at the first point: the payload of the blocks and the scale's one element. -/
theorem out2_A3 (hc : cond2_0 i) : out2_A_3 c i a2 h2 a3 h3 a4 h4 a5 h5 a6 h6 hc x0 x1 x2 = k2_pay2 x1 x2 (x0 z1) := by
  unfold out2_A_3
  rw [View.read_writes_eq_canon _ _ _ (cover2_A_3 c i a2 h2 a3 h3 a4 h4 a5 h5 a6 h6 hc x0 x1 x2)]
  unfold kernelRun2_A
  dsimp only
  sl_unfold_words
  rw [View.canon_unit_zero hz2]
  simp only [View.readAt_eq_ld, h2.read_unread, h3.read_unread, h4.read_unread, View.ld_unit_zero (S := S1024x16384) hz2, View.ld_unit_zero (S := S16384x512) hz2, View.ld_unit_zero (S := S1) hz1]
  rw [ld_word]

/-- The same at a later point. -/
theorem out2_B3 (hc : ¬cond2_0 i) : out2_B_3 c i a2 h2 a3 h3 a4 h4 a5 h5 a6 h6 hc x0 x1 x2 xo = k2_pay2 x1 x2 (x0 z1) := by
  unfold out2_B_3
  rw [View.read_writes_eq_canon _ _ _ (cover2_B_3 c i a2 h2 a3 h3 a4 h4 a5 h5 a6 h6 hc x0 x1 x2 xo)]
  unfold kernelRun2_B
  dsimp only
  sl_unfold_words
  rw [View.canon_unit_zero hz2]
  simp only [View.readAt_eq_ld, h2.read_unread, h3.read_unread, h4.read_unread, View.ld_unit_zero (S := S1024x16384) hz2, View.ld_unit_zero (S := S16384x512) hz2, View.ld_unit_zero (S := S1) hz1]
  rw [ld_word]

/-- The running maximum at the first point: the tile's maximum over the zero block. -/
theorem out2_A4 (hc : cond2_0 i) : out2_A_4 c i a2 h2 a3 h3 a4 h4 a5 h5 a6 h6 hc x0 x1 x2 = k2_pay3 x1 x2 (x0 z1) k2_pay1 := by
  unfold out2_A_4
  rw [View.read_writes_eq_canon _ _ _ (cover2_A_4 c i a2 h2 a3 h3 a4 h4 a5 h5 a6 h6 hc x0 x1 x2)]
  unfold kernelRun2_A
  dsimp only
  sl_unfold_words
  rw [View.canon_cons_unit_zero (S := S8x128) hz2, View.readCov_unit_zero (S := S8x128) _ hz2]
  simp only [View.readAt_eq_ld, h2.read_unread, h3.read_unread, h4.read_unread, View.ld_unit_zero (S := S1024x16384) hz2, View.ld_unit_zero (S := S16384x512) hz2, View.ld_unit_zero (S := S1) hz1]
  rw [ld_word]

/-- The running maximum at a later point: joined with the tile's. -/
theorem out2_B4 (hc : ¬cond2_0 i) : out2_B_4 c i a2 h2 a3 h3 a4 h4 a5 h5 a6 h6 hc x0 x1 x2 xo = k2_pay3 x1 x2 (x0 z1) xo := by
  unfold out2_B_4
  rw [View.read_writes_eq_canon _ _ _ (cover2_B_4 c i a2 h2 a3 h3 a4 h4 a5 h5 a6 h6 hc x0 x1 x2 xo)]
  unfold kernelRun2_B
  dsimp only
  sl_unfold_words
  rw [View.canon_unit_zero hz2]
  simp only [View.readAt_eq_ld, h2.read_unread, h3.read_unread, h4.read_unread, h6.read_unread, View.ld_unit_zero (S := S1024x16384) hz2, View.ld_unit_zero (S := S16384x512) hz2, View.ld_unit_zero (S := S1) hz1, View.ld_unit_zero (S := S8x128) hz2]
  rw [ld_word]
end R2

end Cert.KernelIdeal.Gen
-- ==== Proof.Arrays.lean ====
module

public import proofs.«01_k».proof.Proof.Outs

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

/-- One element quantised: times the inverse scale, clipped to ±448, cast to the 8-bit float. -/
def quant (a inv : F .f32) : F .fp8e4m3 :=
  FloatOps.truncf .fp8e4m3 bitsLt_fp8e4m3_f32 (FloatOps.minimumf (FloatOps.ofBits .f32 0x43E00000#32)
    (FloatOps.maximumf (FloatOps.ofBits .f32 0xC3E00000#32) (FloatOps.mulf a inv)))

/-- The first quantiser's payload at an element. -/
theorem k1_pay1_apply (x : Vec F S256x8192 .bf16) (inv : F .f32) (j : S256x8192.Idx) :
    k1_pay1 x inv j = quant (FloatOps.extf .f32 bitsLt_bf16_f32 (x j)) inv := by
  unfold k1_pay1; rw [shapeCast_self]; rfl

/-- The second quantiser's payload at an element. -/
theorem k3_pay1_apply (x : Vec F S512x6144 .f32) (inv : F .f32) (j : S512x6144.Idx) :
    k3_pay1 x inv j = quant (x j) inv := by
  unfold k3_pay1; rw [shapeCast_self]; rfl

section Regions
variable (V : (c : Dev nD) → (b : Ref sig .tc) → Buf (Elt F) ((c : Thread nD τ).loc b))

/-! ## The first quantiser's array -/

/-- The codes of x: every element quantised by the one inverse scale. -/
def codesX (c : Dev nD) : Vec F S9216x16384 .fp8e4m3 :=
  fun i => quant (FloatOps.extf .f32 bitsLt_bf16_f32 ((V c main_v0 : Vec F S9216x16384 .bf16) i)) ((V c main_v30 : Vec F S1 .f32) z1)

/-- What the quantiser of x writes out at a point is its block of the codes. -/
theorem flushed1 (c : Dev nD) (t : Fin cfg1.N) :
    (dat1 V c).flushed 2 t = ((cfg1.win 2).blk t).view.read (Elt F) (codesX V c) := by
  show (cfg1.win 2).cut (grid1.coords t) ((dat1 V c).after 2 t) = _
  rw [after1_2]
  unfold outsAt1
  rw [out1_A]
  funext j
  show k1_pay1 _ _ j = _
  rw [k1_pay1_apply]
  rw [View.read_apply]
  unfold codesX
  congr 1
  exact congrArg (V c main_v30) (z1_eq _)

/-- The block that the quantiser of x writes at grid point t. -/
theorem idx1 (t : Fin cfg1.N) : win1_2.index t 0 = t.val / 2 ∧ win1_2.index t 1 = t.val % 2 := by
  have ht : t.val < 72 := Nat.lt_of_lt_of_eq t.isLt N_1
  have e0 : (grid1.coords t 0).val = t.val / 2 % 36 := Pipeline.Grid.coords_val t 0 (by decide) rfl
  have e1 : (grid1.coords t 1).val = t.val / 1 % 2 := Pipeline.Grid.coords_val t 1 (by decide) rfl
  constructor
  · show (BitVec.ofNat 32 (grid1.coords t 0).val).toNat = _
    rw [e0, BitVec.toNat_ofNat]; omega
  · show (BitVec.ofNat 32 (grid1.coords t 1).val).toNat = _
    rw [e1, BitVec.toNat_ofNat]; omega

/-- The blocks of the quantiser of x cover its array. -/
theorem cover1 (i : S9216x16384.Idx) :
    ∃ t : Fin cfg1.N, (cfg1.win 2).flush t = true ∧ i ∈ ((cfg1.win 2).blk t).view.set := by
  have h0 : (i 0 : Nat) < 9216 := (i 0).isLt
  have h1 : (i 1 : Nat) < 16384 := (i 1).isLt
  have hN : cfg1.N = 72 := N_1
  let t : Fin cfg1.N := ⟨(i 0 : Nat) / 256 * 2 + (i 1 : Nat) / 8192, by omega⟩
  refine ⟨t, flush1_2 _, ?_⟩
  show i ∈ ((View.whole main_v31).slice (win1_2.rect t)).set
  rw [View.set_slice_whole, Rect.mem_set_unit]
  obtain ⟨e0, e1⟩ := idx1 t
  have ht : t.val = (i 0 : Nat) / 256 * 2 + (i 1 : Nat) / 8192 := rfl
  intro a
  match a with
  | ⟨0, _⟩ => show win1_2.index t 0 * 256 ≤ (i 0 : Nat) ∧ (i 0 : Nat) < win1_2.index t 0 * 256 + 256
              rw [e0]; omega
  | ⟨1, _⟩ => show win1_2.index t 1 * 8192 ≤ (i 1 : Nat) ∧ (i 1 : Nat) < win1_2.index t 1 * 8192 + 8192
              rw [e1]; omega

/-- The first quantiser's result array: the codes of x. -/
theorem final1 (c : Dev nD) : (dat1 V c).arrAt 2 cfg1.N = codesX V c :=
  (dat1 V c).arrAt_eq_of_cover 2 (codesX V c) (fun t _ => flushed1 V c t) cover1

/-! ## The second quantiser's array -/

/-- The codes of y: every element quantised by the one inverse scale. -/
def codesY (c : Dev nD) : Vec F S9216x6144 .fp8e4m3 :=
  fun i => quant ((V c main_v34_0 : Vec F S9216x6144 .f32) i) ((V c main_v63 : Vec F S1 .f32) z1)

/-- What the quantiser of y writes out at a point is its block of the codes. -/
theorem flushed3 (c : Dev nD) (t : Fin cfg3.N) :
    (dat3 V c).flushed 2 t = ((cfg3.win 2).blk t).view.read (Elt F) (codesY V c) := by
  show (cfg3.win 2).cut (grid3.coords t) ((dat3 V c).after 2 t) = _
  rw [after3_2]
  unfold outsAt3
  rw [out3_A]
  funext j
  show k3_pay1 _ _ j = _
  rw [k3_pay1_apply]
  rw [View.read_apply]
  unfold codesY
  congr 1
  exact congrArg (V c main_v63) (z1_eq _)

/-- The block that the quantiser of y writes at grid point t. -/
theorem idx3 (t : Fin cfg3.N) : win3_2.index t 0 = t.val ∧ win3_2.index t 1 = 0 := by
  have ht : t.val < 18 := Nat.lt_of_lt_of_eq t.isLt N_3
  have e0 : (grid3.coords t 0).val = t.val / 1 % 18 := Pipeline.Grid.coords_val t 0 (by decide) rfl
  have e1 : (grid3.coords t 1).val = t.val / 1 % 1 := Pipeline.Grid.coords_val t 1 (by decide) rfl
  constructor
  · show (BitVec.ofNat 32 (grid3.coords t 0).val).toNat = _
    rw [e0, BitVec.toNat_ofNat]; omega
  · show (BitVec.ofNat 32 (grid3.coords t 1).val).toNat = _
    rw [e1, BitVec.toNat_ofNat]; omega

/-- The blocks of the quantiser of y cover its array. -/
theorem cover3 (i : S9216x6144.Idx) :
    ∃ t : Fin cfg3.N, (cfg3.win 2).flush t = true ∧ i ∈ ((cfg3.win 2).blk t).view.set := by
  have h0 : (i 0 : Nat) < 9216 := (i 0).isLt
  have h1 : (i 1 : Nat) < 6144 := (i 1).isLt
  have hN : cfg3.N = 18 := N_3
  let t : Fin cfg3.N := ⟨(i 0 : Nat) / 512, by omega⟩
  refine ⟨t, flush3_2 _, ?_⟩
  show i ∈ ((View.whole main_v64).slice (win3_2.rect t)).set
  rw [View.set_slice_whole, Rect.mem_set_unit]
  obtain ⟨e0, e1⟩ := idx3 t
  have ht : t.val = (i 0 : Nat) / 512 := rfl
  intro a
  match a with
  | ⟨0, _⟩ => show win3_2.index t 0 * 512 ≤ (i 0 : Nat) ∧ (i 0 : Nat) < win3_2.index t 0 * 512 + 512
              rw [e0]; omega
  | ⟨1, _⟩ => show win3_2.index t 1 * 6144 ≤ (i 1 : Nat) ∧ (i 1 : Nat) < win3_2.index t 1 * 6144 + 6144
              rw [e1]; omega

/-- The second quantiser's result array: the codes of y. -/
theorem final3 (c : Dev nD) : (dat3 V c).arrAt 2 cfg3.N = codesY V c :=
  (dat3 V c).arrAt_eq_of_cover 2 (codesY V c) (fun t _ => flushed3 V c t) cover3

end Regions

end Cert.KernelIdeal.Gen
-- ==== Proof.Maxes.lean ====
module

public import Idealize.ShloMosaic.PureOps.Ideal.Laws
public import Idealize.ShloMosaic.PureOps.Reduce
public import Mathlib.Data.Finset.Fold
public import Mathlib.Order.CompleteLattice.Basic

@[expose] public section

noncomputable section

namespace Cert.Maxes

open Idealize.ShloMosaic

/-- The word of minus infinity reads as the least extended real. -/
theorem ofBits_neg_inf : (FloatOps.ofBits .f32 0xFF800000#32 : Ideal .f32) = (⊥ : EReal) := by
  show Ideal.ofBits .f32 0xFF800000#32 = ⊥
  simp [Ideal.ofBits, Ideal.ieee]

variable {s t u : Shape} {axes : List (Fin s.rank)}

/-- A kernel's maximum over some axes is at most `b` exactly when every element it runs over is. -/
theorem multiReduction_le (src : FVec Ideal s .f32) (h : s.Reduces axes t) (hφ : FKind.Formats .f32)
    (hacc : (0xFF800000#32 : BitVec 32) = FKind.maximumf.neutral .f32 hφ) (j : t.Idx) (b : EReal) :
    (multiReduction .maximumf axes t src 0xFF800000#32 h hφ hacc j : EReal) ≤ b ↔ ∀ i, h.drop i = j → (src i : EReal) ≤ b := by
  rw [multiReduction_maximumf_eq_fold, ofBits_neg_inf]
  show (Finset.fold max (⊥ : EReal) src _) ≤ b ↔ _
  rw [Finset.fold_max_le]
  simp

/-- A host maximum over some axes, from minus infinity, is at most `b` exactly when every element it runs over is. -/
theorem hostReduce_le (x : FVec Ideal s .f32) (init : FVec Ideal u .f32) (h : s.ReducesTo axes t) (hu : 0 < u.numel)
    (hi : init (Shape.Idx.first hu) = (⊥ : EReal)) (j : t.Idx) (b : EReal) :
    (Host.reduce (FloatOps.maximumf (F := Ideal) (φ := .f32)) x init h hu j : EReal) ≤ b ↔ ∀ i, h.drop i = j → (x i : EReal) ≤ b := by
  rw [Host.reduce_eq_fold, hi]
  show (Finset.fold max (⊥ : EReal) x _) ≤ b ↔ _
  rw [Finset.fold_max_le]
  simp

/-- A number at most exactly the bounds of a family is the family's supremum. -/
theorem eq_iSup_of_le_iff {ι : Sort*} (a : EReal) (f : ι → EReal) (h : ∀ b, a ≤ b ↔ ∀ i, f i ≤ b) : a = ⨆ i, f i :=
  eq_of_forall_ge_iff fun b => (h b).trans iSup_le_iff.symm

/-- An absolute value is at least zero. -/
theorem absf_nonneg (a : EReal) : 0 ≤ max a (-a) := by
  rcases le_total 0 a with h | h
  · exact le_max_of_le_left h
  · exact le_max_of_le_right (by simpa using EReal.neg_le_neg_iff.mpr h)

end Cert.Maxes
-- ==== Proof.Product.lean ====
module

public import proofs.«01_k».proof.Proof.Arrays
public import proofs.«01_k».proof.Proof.Maxes
public import Idealize.ShloMosaic.Lib.MatmulPlain

@[expose] public section

set_option maxRecDepth 16384

noncomputable section

namespace Cert.Math

open Idealize.ShloMosaic Idealize.ShloMosaic.ValueIdx

/-- The scaled matrix product: entry (r, c) is the sum over k of x[r, k] · w[k, c], times the scale. -/
def product (x : (⟨2, ![9216, 16384]⟩ : Shape).Idx → EReal) (w : (⟨2, ![16384, 6144]⟩ : Shape).Idx → EReal) (s : EReal) :
    (⟨2, ![9216, 6144]⟩ : Shape).Idx → EReal :=
  fun i => (∑ k : Fin 16384, x (ix2 (i 0) k) * w (ix2 k (i 1))) * s

end Cert.Math

namespace Cert.KernelIdeal.Gen

open Idealize.ShloMosaic Idealize.ShloMosaic.TcCoe Idealize.ShloMosaic.Tactic Idealize.SL.Sem Idealize.ShloMosaic.ValueIdx
open Idealize.ShloMosaic.Pipeline (Dat)

/-- The printed contraction of a tile is the plain one. -/
theorem dot_plain2 : dot_S1024x16384_S16384x512_S1024x512_1_0_0_1_n_n = DotDims.plain 1024 16384 512 := rfl

/-- A tile of the product at an entry: the row times the column, times the scale. -/
theorem k2_pay2_apply (x : Vec Ideal S1024x16384 .fp8e4m3) (w : Vec Ideal S16384x512 .fp8e4m3) (s : Ideal .f32) (j : S1024x512.Idx) :
    (k2_pay2 (F := Ideal) x w s j : EReal) = (∑ k : Fin 16384, (x (ix2 (j 0) k) : EReal) * (w (ix2 k (j 1)) : EReal)) * (s : EReal) := by
  obtain ⟨r, q, rfl⟩ : ∃ (r : Fin 1024) (q : Fin 512), j = ix2 r q := ⟨_, _, eq_ix2 j⟩
  unfold k2_pay2
  simp only [shapeCast_self, matmul, mulf, broadcast, dot_plain2]
  have e := Ideal.matmul_plain_apply (φ₁ := .fp8e4m3) (φ₂ := .fp8e4m3) none x w (constant S1024x512 .f32 0x00000000#32) r q
  have hz : (constant (F := Ideal) S1024x512 .f32 0x00000000#32 (ix2 r q) : EReal) = 0 := Ideal.ofBits_zero_f32
  rw [hz, zero_add] at e
  exact congrArg (fun a : EReal => a * s) e

section Regions
variable (V : (c : Dev nD) → (b : Ref sig .tc) → Buf (Elt Ideal) ((c : Thread nD τ).loc b))

/-- The matrix product's array, over the codes, the weights and the scale in the memory. -/
def prodY (c : Dev nD) : Vec Ideal S9216x6144 .f32 :=
  Cert.Math.product (V c main_v31) (V c main_arg1) ((V c main_v33 : Vec Ideal S1 .f32) z1)

/-- What the product's first output holds after a point: the payload of that point's blocks. -/
theorem outs2_1 (c : Dev nD) (t : Fin cfg2.N) :
    (outsAt2 V c t.val t.isLt).1 = k2_pay2 (iblk2 V c 1 t : Vec Ideal S1024x16384 .fp8e4m3) (iblk2 V c 2 t : Vec Ideal S16384x512 .fp8e4m3) ((iblk2 V c 0 t : Vec Ideal S1 .f32) z1) := by
  by_cases h : t.val % 108 = 0
  · rw [outsAt2_A V c t h]; dsimp only; rw [out2_A3]
  · rw [outsAt2_B V c t h]; dsimp only; rw [out2_B3]

/-- The block that the matmul writes at grid point t. -/
theorem idx2 (t : Fin cfg2.N) : win2_3.index t 0 = t.val / 12 ∧ win2_3.index t 1 = t.val % 12 := by
  have ht : t.val < 108 := Nat.lt_of_lt_of_eq t.isLt N_2
  have e0 : (grid2.coords t 0).val = t.val / 12 % 9 := Pipeline.Grid.coords_val t 0 (by decide) rfl
  have e1 : (grid2.coords t 1).val = t.val / 1 % 12 := Pipeline.Grid.coords_val t 1 (by decide) rfl
  constructor
  · show (BitVec.ofNat 32 (grid2.coords t 0).val).toNat = _
    rw [e0, BitVec.toNat_ofNat]; omega
  · show (BitVec.ofNat 32 (grid2.coords t 1).val).toNat = _
    rw [e1, BitVec.toNat_ofNat]; omega

/-- What a point computes is its tile of the product's array. -/
theorem tile2 (c : Dev nD) (t : Fin cfg2.N) (j : S1024x512.Idx) :
    k2_pay2 (F := Ideal) (iblk2 V c 1 t : Vec Ideal S1024x16384 .fp8e4m3) (iblk2 V c 2 t : Vec Ideal S16384x512 .fp8e4m3) ((iblk2 V c 0 t : Vec Ideal S1 .f32) z1) j
      = prodY V c (((cfg2.win 3).blk t).view.emb j) := by
  rw [k2_pay2_apply]
  unfold prodY Cert.Math.product
  have es : (iblk2 V c 0 t : Vec Ideal S1 .f32) z1 = (V c main_v33 : Vec Ideal S1 .f32) z1 :=
    congrArg (V c main_v33) (z1_eq _)
  refine congrArg₂ (fun a b : EReal => a * b) ?_ es
  refine Finset.sum_congr rfl fun k _ => ?_
  have ex : (iblk2 V c 1 t : Vec Ideal S1024x16384 .fp8e4m3) (ix2 (j 0) k) = (V c main_v31 : Vec Ideal S9216x16384 .fp8e4m3) (ix2 ((((cfg2.win 3).blk t).view.emb j : S9216x6144.Idx) 0) k) := by
    refine congrArg (V c main_v31) ?_
    funext a; apply Fin.ext
    match a with
    | ⟨0, _⟩ => rfl
    | ⟨1, _⟩ => show 0 * 16384 + _ = _; simp
  have ew : (iblk2 V c 2 t : Vec Ideal S16384x512 .fp8e4m3) (ix2 k (j 1)) = (V c main_arg1 : Vec Ideal S16384x6144 .fp8e4m3) (ix2 k ((((cfg2.win 3).blk t).view.emb j : S9216x6144.Idx) 1)) := by
    refine congrArg (V c main_arg1) ?_
    funext a; apply Fin.ext
    match a with
    | ⟨0, _⟩ => show 0 * 16384 + _ = _; simp
    | ⟨1, _⟩ => rfl
  rw [ex, ew]

/-- What the matmul writes out at a point is its block of the product. -/
theorem flushed2_3 (c : Dev nD) (t : Fin cfg2.N) :
    (dat2 V c).flushed 3 t = ((cfg2.win 3).blk t).view.read (Elt Ideal) (prodY V c) := by
  show (cfg2.win 3).cut (grid2.coords t) ((dat2 V c).after 3 t) = _
  rw [after2_3, outs2_1]
  funext j
  exact tile2 V c t j

/-- Every entry of the product lies in a tile. -/
theorem mem_tile2 (i : S9216x6144.Idx) : ∃ t : Fin cfg2.N, i ∈ ((cfg2.win 3).blk t).view.set := by
  have h0 : (i 0 : Nat) < 9216 := (i 0).isLt
  have h1 : (i 1 : Nat) < 6144 := (i 1).isLt
  have hN : cfg2.N = 108 := N_2
  let t : Fin cfg2.N := ⟨(i 0 : Nat) / 1024 * 12 + (i 1 : Nat) / 512, by omega⟩
  refine ⟨t, ?_⟩
  show i ∈ ((View.whole main_v34_0).slice (win2_3.rect t)).set
  rw [View.set_slice_whole, Rect.mem_set_unit]
  obtain ⟨e0, e1⟩ := idx2 t
  have ht : t.val = (i 0 : Nat) / 1024 * 12 + (i 1 : Nat) / 512 := rfl
  intro a
  match a with
  | ⟨0, _⟩ => show win2_3.index t 0 * 1024 ≤ (i 0 : Nat) ∧ (i 0 : Nat) < win2_3.index t 0 * 1024 + 1024
              rw [e0]; omega
  | ⟨1, _⟩ => show win2_3.index t 1 * 512 ≤ (i 1 : Nat) ∧ (i 1 : Nat) < win2_3.index t 1 * 512 + 512
              rw [e1]; omega

/-- The product's array at the end. -/
theorem final2_3 (c : Dev nD) : (dat2 V c).arrAt 3 cfg2.N = prodY V c :=
  (dat2 V c).arrAt_eq_of_cover 3 (prodY V c) (fun t _ => flushed2_3 V c t)
    (fun i => let ⟨t, ht⟩ := mem_tile2 i; ⟨t, flush2_3 t, ht⟩)

end Regions

end Cert.KernelIdeal.Gen
-- ==== Proof.Amax.lean ====
module

public import proofs.«01_k».proof.Proof.Product

@[expose] public section

set_option maxRecDepth 16384

noncomputable section

namespace Cert.KernelIdeal.Gen

open Idealize.ShloMosaic Idealize.ShloMosaic.TcCoe Idealize.ShloMosaic.Tactic Idealize.SL.Sem Idealize.ShloMosaic.ValueIdx
open Idealize.ShloMosaic.Pipeline (Dat)

/-- An extended real's absolute value. -/
abbrev eabs (a : EReal) : EReal := max a (-a)

/-- A block of 256×8192 folded onto 8×128 is at most `b` at `j` exactly when every entry in `j`'s residue class is. -/
theorem fold256_le (v : FVec Ideal S256x8192 .f32) (j : S8x128.Idx) (b : EReal) :
    (multiReduction .maximumf [0, 2] S8x128 (shapeCast S32x8x64x128 v shapeCasts_S256x8192_S32x8x64x128) 0xFF800000#32 reduces_S32x8x64x128_S8x128 (.inl rfl) rfl j : EReal) ≤ b
      ↔ ∀ i : S256x8192.Idx, (i 0).val % 8 = (j 0).val → (i 1).val % 128 = (j 1).val → (v i : EReal) ≤ b := by
  refine (Cert.Maxes.multiReduction_le _ _ _ _ _ _).trans ?_
  have hd : ∀ i : S32x8x64x128.Idx, reduces_S32x8x64x128_S8x128.drop i = j ↔ (i 1).val = (j 0).val ∧ (i 3).val = (j 1).val := fun i => by
    have d0 := reduces_S32x8x64x128_S8x128.drop_apply_val_of_eq i 0 1 (by decide)
    have d1 := reduces_S32x8x64x128_S8x128.drop_apply_val_of_eq i 1 3 (by decide)
    constructor
    · rintro rfl; exact ⟨d0.symm, d1.symm⟩
    · rintro ⟨h0, h1⟩; funext a; apply Fin.ext
      match a with
      | ⟨0, _⟩ => exact d0.trans h0
      | ⟨1, _⟩ => exact d1.trans h1
  constructor
  · intro H i h0 h1
    have b0 : (i 0).val < 256 := (i 0).isLt
    have b1 : (i 1).val < 8192 := (i 1).isLt
    have := H (ix4 ⟨(i 0).val / 8, by omega⟩ ⟨(i 0).val % 8, by omega⟩ ⟨(i 1).val / 128, by omega⟩ ⟨(i 1).val % 128, by omega⟩) ((hd _).mpr ⟨h0, h1⟩)
    rwa [shapeCast_apply v _ _ i (by
      rw [Shape.rowMajor_val_two, Shape.rowMajor_val_four]
      show (i 0).val * 8192 + (i 1).val = (((i 0).val / 8 * 8 + (i 0).val % 8) * 64 + (i 1).val / 128) * 128 + (i 1).val % 128
      omega)] at this
  · intro H i hi
    obtain ⟨h0, h1⟩ := (hd i).mp hi
    have b0 : (i 0).val < 32 := (i 0).isLt
    have b1 : (i 1).val < 8 := (i 1).isLt
    have b2 : (i 2).val < 64 := (i 2).isLt
    have b3 : (i 3).val < 128 := (i 3).isLt
    rw [shapeCast_apply v _ i (ix2 (⟨(i 0).val * 8 + (i 1).val, by omega⟩ : Fin 256) (⟨(i 2).val * 128 + (i 3).val, by omega⟩ : Fin 8192)) (by
      rw [Shape.rowMajor_val_two, Shape.rowMajor_val_four]
      show ((i 0).val * 8 + (i 1).val) * 8192 + ((i 2).val * 128 + (i 3).val) = (((i 0).val * 8 + (i 1).val) * 64 + (i 2).val) * 128 + (i 3).val
      omega)]
    refine H _ ?_ ?_
    · show ((i 0).val * 8 + (i 1).val) % 8 = _; omega
    · show ((i 2).val * 128 + (i 3).val) % 128 = _; omega

/-- A tile of 1024×512 folded onto 8×128 is at most `b` at `j` exactly when every entry in `j`'s residue class is. -/
theorem fold1024_le (v : FVec Ideal S1024x512 .f32) (j : S8x128.Idx) (b : EReal) :
    (multiReduction .maximumf [0, 2] S8x128 (shapeCast S128x8x4x128 v shapeCasts_S1024x512_S128x8x4x128) 0xFF800000#32 reduces_S128x8x4x128_S8x128 (.inl rfl) rfl j : EReal) ≤ b
      ↔ ∀ i : S1024x512.Idx, (i 0).val % 8 = (j 0).val → (i 1).val % 128 = (j 1).val → (v i : EReal) ≤ b := by
  refine (Cert.Maxes.multiReduction_le _ _ _ _ _ _).trans ?_
  have hd : ∀ i : S128x8x4x128.Idx, reduces_S128x8x4x128_S8x128.drop i = j ↔ (i 1).val = (j 0).val ∧ (i 3).val = (j 1).val := fun i => by
    have d0 := reduces_S128x8x4x128_S8x128.drop_apply_val_of_eq i 0 1 (by decide)
    have d1 := reduces_S128x8x4x128_S8x128.drop_apply_val_of_eq i 1 3 (by decide)
    constructor
    · rintro rfl; exact ⟨d0.symm, d1.symm⟩
    · rintro ⟨h0, h1⟩; funext a; apply Fin.ext
      match a with
      | ⟨0, _⟩ => exact d0.trans h0
      | ⟨1, _⟩ => exact d1.trans h1
  constructor
  · intro H i h0 h1
    have b0 : (i 0).val < 1024 := (i 0).isLt
    have b1 : (i 1).val < 512 := (i 1).isLt
    have := H (ix4 ⟨(i 0).val / 8, by omega⟩ ⟨(i 0).val % 8, by omega⟩ ⟨(i 1).val / 128, by omega⟩ ⟨(i 1).val % 128, by omega⟩) ((hd _).mpr ⟨h0, h1⟩)
    rwa [shapeCast_apply v _ _ i (by
      rw [Shape.rowMajor_val_two, Shape.rowMajor_val_four]
      show (i 0).val * 512 + (i 1).val = (((i 0).val / 8 * 8 + (i 0).val % 8) * 4 + (i 1).val / 128) * 128 + (i 1).val % 128
      omega)] at this
  · intro H i hi
    obtain ⟨h0, h1⟩ := (hd i).mp hi
    have b0 : (i 0).val < 128 := (i 0).isLt
    have b1 : (i 1).val < 8 := (i 1).isLt
    have b2 : (i 2).val < 4 := (i 2).isLt
    have b3 : (i 3).val < 128 := (i 3).isLt
    rw [shapeCast_apply v _ i (ix2 (⟨(i 0).val * 8 + (i 1).val, by omega⟩ : Fin 1024) (⟨(i 2).val * 128 + (i 3).val, by omega⟩ : Fin 512)) (by
      rw [Shape.rowMajor_val_two, Shape.rowMajor_val_four]
      show ((i 0).val * 8 + (i 1).val) * 512 + ((i 2).val * 128 + (i 3).val) = (((i 0).val * 8 + (i 1).val) * 4 + (i 2).val) * 128 + (i 3).val
      omega)]
    refine H _ ?_ ?_
    · show ((i 0).val * 8 + (i 1).val) % 8 = _; omega
    · show ((i 2).val * 128 + (i 3).val) % 128 = _; omega

/-- One step of the first maximum pass, as bounds. -/
theorem k0_pay2_le (x : Vec Ideal S256x8192 .bf16) (xo : Vec Ideal S8x128 .f32) (j : S8x128.Idx) (b : EReal) :
    (k0_pay2 (F := Ideal) x xo j : EReal) ≤ b ↔ (xo j : EReal) ≤ b ∧
      ∀ i : S256x8192.Idx, (i 0).val % 8 = (j 0).val → (i 1).val % 128 = (j 1).val → eabs (x i) ≤ b := by
  unfold k0_pay2
  simp only [shapeCast_self]
  refine (max_le_iff (c := b)).trans (and_congr Iff.rfl ?_)
  exact fold256_le _ j b

/-- One step of the product's running maximum, as bounds. -/
theorem k2_pay3_le (x : Vec Ideal S1024x16384 .fp8e4m3) (w : Vec Ideal S16384x512 .fp8e4m3) (s : Ideal .f32) (xo : Vec Ideal S8x128 .f32)
    (j : S8x128.Idx) (b : EReal) :
    (k2_pay3 (F := Ideal) x w s xo j : EReal) ≤ b ↔ (xo j : EReal) ≤ b ∧
      ∀ i : S1024x512.Idx, (i 0).val % 8 = (j 0).val → (i 1).val % 128 = (j 1).val → eabs (k2_pay2 (F := Ideal) x w s i) ≤ b := by
  unfold k2_pay3
  simp only [shapeCast_self]
  refine (max_le_iff (c := b)).trans (and_congr Iff.rfl ?_)
  exact fold1024_le _ j b

/-- The maximum pass resets to zero. -/
theorem k0_pay1_le (j : S8x128.Idx) (b : EReal) : (k0_pay1 (F := Ideal) j : EReal) ≤ b ↔ 0 ≤ b := by
  have e : (k0_pay1 (F := Ideal) j : EReal) = 0 := Ideal.ofBits_zero_f32
  rw [e]
/-- The matmul resets its running maximum to zero. -/
theorem k2_pay1_le (j : S8x128.Idx) (b : EReal) : (k2_pay1 (F := Ideal) j : EReal) ≤ b ↔ 0 ≤ b := by
  have e : (k2_pay1 (F := Ideal) j : EReal) = 0 := Ideal.ofBits_zero_f32
  rw [e]

section Regions
variable (V : (c : Dev nD) → (b : Ref sig .tc) → Buf (Elt Ideal) ((c : Thread nD τ).loc b))

/-! ## The first maximum pass: the reset at the second point drops the first block -/

/-- All entries of block `t` of x in the residue class of `j` are at most `b` in absolute value. -/
def blockLe0 (c : Dev nD) (t : Fin cfg0.N) (j : S8x128.Idx) (b : EReal) : Prop :=
  ∀ i : S256x8192.Idx, (i 0).val % 8 = (j 0).val → (i 1).val % 128 = (j 1).val → eabs ((iblk0 V c 0 t : Vec Ideal S256x8192 .bf16) i) ≤ b

/-- The running maximum after point `n + 1` bounds zero and blocks 1 to `n + 1`: block 0 is not among them. -/
theorem outs0_le (c : Dev nD) (j : S8x128.Idx) (b : EReal) : (n : ℕ) → (hn : n + 1 < cfg0.N) →
    ((outsAt0 V c (n + 1) hn j : EReal) ≤ b ↔ 0 ≤ b ∧ ∀ t : Fin cfg0.N, 1 ≤ t.val → t.val ≤ n + 1 → blockLe0 V c t j b)
  | 0, hn => by
    rw [outsAt0_A V c ⟨0 + 1, hn⟩ (by show 0 + 1 < 2; omega), out0_A, k0_pay2_le, k0_pay1_le]
    refine and_congr Iff.rfl ⟨fun H t h1 h2 => ?_, fun H => H ⟨0 + 1, hn⟩ (le_refl 1) (le_refl 1)⟩
    obtain rfl : t = ⟨0 + 1, hn⟩ := Fin.ext (by show t.val = 0 + 1; omega)
    exact H
  | n + 1, hn => by
    rw [outsAt0_B V c ⟨n + 1 + 1, hn⟩ (by show ¬ n + 1 + 1 < 2; omega), out0_B, k0_pay2_le]
    rw [show (outsAt0 V c (n + 1 + 1 - 1) (Nat.lt_of_le_of_lt (Nat.sub_le _ _) hn)) = outsAt0 V c (n + 1) (Nat.lt_of_succ_lt hn) from rfl, outs0_le c j b n (Nat.lt_of_succ_lt hn)]
    rw [and_assoc]
    refine and_congr Iff.rfl ⟨fun H t h1 h2 => ?_, fun H => ⟨fun t h1 h2 => H t h1 (by omega), H ⟨n + 1 + 1, hn⟩ (by show 1 ≤ n + 1 + 1; omega) (le_refl _)⟩⟩
    by_cases h : t.val ≤ n + 1
    · exact H.1 t h1 h
    · obtain rfl : t = ⟨n + 1 + 1, hn⟩ := Fin.ext (by show t.val = n + 1 + 1; omega)
      exact H.2

/-- The block that the maximum pass reads at grid point t. -/
theorem idx0 (t : Fin cfg0.N) : win0_0.index t 0 = t.val / 2 ∧ win0_0.index t 1 = t.val % 2 := by
  have ht : t.val < 72 := Nat.lt_of_lt_of_eq t.isLt N_0
  have e0 : (grid0.coords t 0).val = t.val / 2 % 36 := Pipeline.Grid.coords_val t 0 (by decide) rfl
  have e1 : (grid0.coords t 1).val = t.val / 1 % 2 := Pipeline.Grid.coords_val t 1 (by decide) rfl
  constructor
  · show (BitVec.ofNat 32 (grid0.coords t 0).val).toNat = _
    rw [e0, BitVec.toNat_ofNat]; omega
  · show (BitVec.ofNat 32 (grid0.coords t 1).val).toNat = _
    rw [e1, BitVec.toNat_ofNat]; omega

/-- Block `t` of x at a local index is x at the index shifted by the block's place. -/
theorem iblk0_apply (c : Dev nD) (t : Fin cfg0.N) (i : S256x8192.Idx) (r : S9216x16384.Idx)
    (h0 : (r 0).val = t.val / 2 * 256 + (i 0).val) (h1 : (r 1).val = t.val % 2 * 8192 + (i 1).val) :
    (iblk0 V c 0 t : Vec Ideal S256x8192 .bf16) i = (V c main_v0 : Vec Ideal S9216x16384 .bf16) r := by
  obtain ⟨e0, e1⟩ := idx0 t
  refine congrArg (V c main_v0) ?_
  funext a; apply Fin.ext
  match a with
  | ⟨0, _⟩ => show win0_0.index t 0 * 256 + 1 * (i 0).val = (r 0).val; rw [e0]; omega
  | ⟨1, _⟩ => show win0_0.index t 1 * 8192 + 1 * (i 1).val = (r 1).val; rw [e1]; omega

/-- The last point of the first maximum pass. -/
abbrev last0 : Fin cfg0.N := ⟨71, Nat.lt_of_lt_of_eq (by decide : 71 < 72) N_0.symm⟩

/-- The maximum pass's array at the end: the running maximum after the last point. -/
theorem final0 (c : Dev nD) : (dat0 V c).arrAt 1 cfg0.N = outsAt0 V c 71 last0.isLt := by
  refine (dat0 V c).arrAt_eq_of_cover 1 (outsAt0 V c 71 last0.isLt : Vec Ideal S8x128 .f32) (fun t ht => ?_) (fun i => ⟨last0, (flush0_1 last0).mpr rfl, ?_⟩)
  · have hN : t.val < 72 := Nat.lt_of_lt_of_eq t.isLt N_0
    have h71 := (flush0_1 t).mp ht
    obtain rfl : t = last0 := Fin.ext (by show t.val = 71; omega)
    show (cfg0.win 1).cut (grid0.coords last0) ((dat0 V c).after 1 last0) = _
    rw [after0_1]
    funext i
    refine congrArg (outsAt0 V c 71 last0.isLt : Vec Ideal S8x128 .f32) ?_
    funext a; apply Fin.ext
    match a with
    | ⟨0, _⟩ => show _ = 0 * 8 + 1 * _; simp
    | ⟨1, _⟩ => show _ = 0 * 128 + 1 * _; simp
  · show i ∈ ((View.whole main_v1).slice (win0_1.rect last0)).set
    rw [View.set_slice_whole, Rect.mem_set_unit]
    have h0 : (i 0 : Nat) < 8 := (i 0).isLt
    have h1 : (i 1 : Nat) < 128 := (i 1).isLt
    intro a
    match a with
    | ⟨0, _⟩ => show 0 * 8 ≤ (i 0 : Nat) ∧ (i 0 : Nat) < 0 * 8 + 8; omega
    | ⟨1, _⟩ => show 0 * 128 ≤ (i 1 : Nat) ∧ (i 1 : Nat) < 0 * 128 + 128; omega

/-- The first maximum pass's array: 8×128 partial maxima of x. -/
def part0 (c : Dev nD) : Vec Ideal S8x128 .f32 := (dat0 V c).arrAt 1 cfg0.N

/-- The first maximum pass, entry by entry at most `b`: exactly when zero and every entry of x OUTSIDE the first 256×8192
    block is at most `b` in absolute value. -/
theorem final0_le (c : Dev nD) (b : EReal) :
    (∀ j : S8x128.Idx, (part0 V c j : EReal) ≤ b) ↔
      0 ≤ b ∧ ∀ i : S9216x16384.Idx, ¬((i 0).val < 256 ∧ (i 1).val < 8192) → eabs ((V c main_v0 : Vec Ideal S9216x16384 .bf16) i) ≤ b := by
  unfold part0
  rw [final0]
  constructor
  · intro H
    refine ⟨((outs0_le V c (ix2 0 0) b 70 last0.isLt).mp (H (ix2 0 0))).1, fun i hi => ?_⟩
    have h0 : (i 0 : Nat) < 9216 := (i 0).isLt
    have h1 : (i 1 : Nat) < 16384 := (i 1).isLt
    have hN : cfg0.N = 72 := N_0
    let t : Fin cfg0.N := ⟨(i 0 : Nat) / 256 * 2 + (i 1 : Nat) / 8192, by omega⟩
    have ht : t.val = (i 0 : Nat) / 256 * 2 + (i 1 : Nat) / 8192 := rfl
    let j : S8x128.Idx := ix2 ⟨(i 0 : Nat) % 8, by omega⟩ ⟨(i 1 : Nat) % 128, by omega⟩
    let l : S256x8192.Idx := ix2 ⟨(i 0 : Nat) % 256, by omega⟩ ⟨(i 1 : Nat) % 8192, by omega⟩
    have key := ((outs0_le V c j b 70 last0.isLt).mp (H j)).2 t (by omega) (by omega) l
      (by show (i 0 : Nat) % 256 % 8 = (i 0 : Nat) % 8; omega) (by show (i 1 : Nat) % 8192 % 128 = (i 1 : Nat) % 128; omega)
    rwa [iblk0_apply V c t l i (by show (i 0 : Nat) = t.val / 2 * 256 + (i 0 : Nat) % 256; omega)
      (by show (i 1 : Nat) = t.val % 2 * 8192 + (i 1 : Nat) % 8192; omega)] at key
  · rintro ⟨hb, H⟩ j
    refine (outs0_le V c j b 70 last0.isLt).mpr ⟨hb, fun t ht1 ht2 l _ _ => ?_⟩
    have hN : t.val < 72 := Nat.lt_of_lt_of_eq t.isLt N_0
    have h0 : (l 0).val < 256 := (l 0).isLt
    have h1 : (l 1).val < 8192 := (l 1).isLt
    rw [iblk0_apply V c t l (ix2 (⟨t.val / 2 * 256 + (l 0).val, by omega⟩ : Fin 9216) (⟨t.val % 2 * 8192 + (l 1).val, by omega⟩ : Fin 16384)) rfl rfl]
    refine H _ ?_
    show ¬(t.val / 2 * 256 + (l 0).val < 256 ∧ t.val % 2 * 8192 + (l 1).val < 8192)
    omega

/-! ## The product's running maximum -/

/-- The running maximum after point `n` bounds zero and every tile up to `n`. -/
theorem outs2_le (c : Dev nD) (j : S8x128.Idx) (b : EReal) : (n : ℕ) → (hn : n < cfg2.N) →
    (((outsAt2 V c n hn).2 j : EReal) ≤ b ↔ 0 ≤ b ∧ ∀ t : Fin cfg2.N, t.val ≤ n → ∀ i : S1024x512.Idx,
      (i 0).val % 8 = (j 0).val → (i 1).val % 128 = (j 1).val → eabs (prodY V c (((cfg2.win 3).blk t).view.emb i)) ≤ b)
  | 0, hn => by
    rw [outsAt2_A V c ⟨0, hn⟩ (by show 0 % 108 = 0; rfl)]
    dsimp only
    rw [out2_A4, k2_pay3_le, k2_pay1_le]
    refine and_congr Iff.rfl ⟨fun H t h2 i h0 h1 => ?_, fun H i h0 h1 => ?_⟩
    · obtain rfl : t = ⟨0, hn⟩ := Fin.ext (by show t.val = 0; omega)
      rw [← tile2 V c ⟨0, hn⟩ i]; exact H i h0 h1
    · rw [tile2 V c ⟨0, hn⟩ i]; exact H ⟨0, hn⟩ (le_refl 0) i h0 h1
  | n + 1, hn => by
    have hN : n + 1 < 108 := Nat.lt_of_lt_of_eq hn N_2
    rw [outsAt2_B V c ⟨n + 1, hn⟩ (by show ¬ (n + 1) % 108 = 0; omega)]
    dsimp only
    rw [out2_B4, k2_pay3_le]
    rw [show (outsAt2 V c (n + 1 - 1) (Nat.lt_of_le_of_lt (Nat.sub_le _ _) hn)) = outsAt2 V c n (Nat.lt_of_succ_lt hn) from rfl, outs2_le c j b n (Nat.lt_of_succ_lt hn)]
    rw [and_assoc]
    refine and_congr Iff.rfl ⟨fun H t h2 i h0 h1 => ?_, fun H => ⟨fun t h2 => H t (by omega), fun i h0 h1 => ?_⟩⟩
    · by_cases h : t.val ≤ n
      · exact H.1 t h i h0 h1
      · obtain rfl : t = ⟨n + 1, hn⟩ := Fin.ext (by show t.val = n + 1; omega)
        rw [← tile2 V c ⟨n + 1, hn⟩ i]; exact H.2 i h0 h1
    · rw [tile2 V c ⟨n + 1, hn⟩ i]; exact H ⟨n + 1, hn⟩ (le_refl _) i h0 h1

/-- The last point of the product. -/
abbrev last2 : Fin cfg2.N := ⟨107, Nat.lt_of_lt_of_eq (by decide : 107 < 108) N_2.symm⟩

/-- The running maximum's array at the end: the one after the last point. -/
theorem final2_4 (c : Dev nD) : (dat2 V c).arrAt 4 cfg2.N = (outsAt2 V c 107 last2.isLt).2 := by
  refine (dat2 V c).arrAt_eq_of_cover 4 ((outsAt2 V c 107 last2.isLt).2 : Vec Ideal S8x128 .f32) (fun t ht => ?_) (fun i => ⟨last2, (flush2_4 last2).mpr rfl, ?_⟩)
  · have hN : t.val < 108 := Nat.lt_of_lt_of_eq t.isLt N_2
    have h71 := (flush2_4 t).mp ht
    obtain rfl : t = last2 := Fin.ext (by show t.val = 107; omega)
    show (cfg2.win 4).cut (grid2.coords last2) ((dat2 V c).after 4 last2) = _
    rw [after2_4]
    funext i
    refine congrArg ((outsAt2 V c 107 last2.isLt).2 : Vec Ideal S8x128 .f32) ?_
    funext a; apply Fin.ext
    match a with
    | ⟨0, _⟩ => show _ = 0 * 8 + 1 * _; simp
    | ⟨1, _⟩ => show _ = 0 * 128 + 1 * _; simp
  · show i ∈ ((View.whole main_v34_1).slice (win2_4.rect last2)).set
    rw [View.set_slice_whole, Rect.mem_set_unit]
    have h0 : (i 0 : Nat) < 8 := (i 0).isLt
    have h1 : (i 1 : Nat) < 128 := (i 1).isLt
    intro a
    match a with
    | ⟨0, _⟩ => show 0 * 8 ≤ (i 0 : Nat) ∧ (i 0 : Nat) < 0 * 8 + 8; omega
    | ⟨1, _⟩ => show 0 * 128 ≤ (i 1 : Nat) ∧ (i 1 : Nat) < 0 * 128 + 128; omega

/-- The product's maximum array: 8×128 partial maxima of the product. -/
def part2 (c : Dev nD) : Vec Ideal S8x128 .f32 := (dat2 V c).arrAt 4 cfg2.N

/-- The product's running maximum, entry by entry at most `b`: exactly when zero and every entry of the product is at most
    `b` in absolute value. -/
theorem final2_le (c : Dev nD) (b : EReal) :
    (∀ j : S8x128.Idx, (part2 V c j : EReal) ≤ b) ↔
      0 ≤ b ∧ ∀ i : S9216x6144.Idx, eabs (prodY V c i) ≤ b := by
  unfold part2
  rw [final2_4]
  constructor
  · intro H
    refine ⟨((outs2_le V c (ix2 0 0) b 107 last2.isLt).mp (H (ix2 0 0))).1, fun i => ?_⟩
    obtain ⟨t, ht⟩ := mem_tile2 i
    obtain ⟨l, -, rfl⟩ := Finset.mem_map.mp ht
    have hN : t.val < 108 := Nat.lt_of_lt_of_eq t.isLt N_2
    exact ((outs2_le V c (ix2 ⟨((l : S1024x512.Idx) 0).val % 8, by omega⟩ ⟨((l : S1024x512.Idx) 1).val % 128, by omega⟩) b 107 last2.isLt).mp (H _)).2 t (by omega) l rfl rfl
  · rintro ⟨hb, H⟩ j
    exact (outs2_le V c j b 107 last2.isLt).mpr ⟨hb, fun t _ l _ _ => H _⟩

end Regions

end Cert.KernelIdeal.Gen
-- ==== Proof.HostReads.lean ====
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Idealize.SL.Sem Idealize.ShloMosaic.StableHlo

variable {F : FTy → Type} [FloatOps F]

/-! ## The host's scale computation as functions -/

/-- The maximum of the 8×128 partial maxima, from minus infinity. -/
def amaxOf (p : Vec F S8x128 .f32) : Vec F S_ .f32 :=
  Host.reduce FloatOps.maximumf p (constant S_ .f32 0xFF800000#32) reducesTo_S8x128_S_d0_1 h_S_

/-- The maximum over 448, as the program multiplies. -/
def overMax (a : Vec F S_ .f32) : Vec F S_ .f32 := mulf a (constant S_ .f32 0x3B124925#32)

/-- The powers of two from 2^-126 to 2^125, each by its bit pattern. -/
def powers : Vec F S252 .f32 :=
  bitcastToFloat .f32 (Host.shli (addi (iotaInDim S252 32 0) (broadcastInDim S252 ![] bcast_S_S252 (constantI S_ 32 1#32)))
    (broadcastInDim S252 ![] bcast_S_S252 (constantI S_ 32 23#32)))

/-- Which of the powers are at most the number. -/
def reached (v : Vec F S_ .f32) : IVec S252 1 := cmpf .oge (broadcastInDim S252 ![] bcast_S_S252 v) (powers (F := F))

/-- One for each power reached, zero for each other. -/
def ones (b : IVec S252 1) : IVec S252 32 :=
  select b (broadcastInDim S252 ![] bcast_S_S252 (constantI S_ 32 1#32)) (broadcastInDim S252 ![] bcast_S_S252 (constantI S_ 32 0#32))

/-- How many there are, less 126: the frexp exponent of a normal number. -/
def countExp (o : IVec S252 32) : IVec S_ 32 :=
  subi (Host.reduce IntOp.addi o (constantI S_ 32 0#32) reducesTo_S252_S_d0 h_S_) (constantI S_ 32 126#32)

/-- Whether the number is zero or not finite. -/
def special (v : Vec F S_ .f32) : IVec S_ 1 :=
  ori (cmpf .oeq v (constant S_ .f32 0x00000000#32)) (noti (cmpf .olt v (constant S_ .f32 0x7F800000#32)))

/-- The exponent of the scale from the maximum. -/
def expOf (a : Vec F S_ .f32) : IVec S_ 32 :=
  select (cmpf .oeq a (constant S_ .f32 0x00000000#32)) (constantI S_ 32 0#32)
    (select (special (overMax a)) (constantI S_ 32 0#32) (countExp (ones (reached (overMax a)))))

/-- The power of two with a given exponent, by its bit pattern. -/
def powOf (e : IVec S_ 32) : Vec F S_ .f32 :=
  bitcastToFloat .f32 (Host.shli (addi e (constantI S_ 32 127#32)) (constantI S_ 32 23#32))

variable (m : (ℓ : Loc nD τ sig) → Buf (Elt F) ℓ) (ρ : Dev nD → PrngReg)

/-! ## The scale of x -/

/-- What the host operations of group 1 leave in `main_v2`, from the values before them. -/
theorem hostOps1_v2 (V0 : Valuation τ sig (Elt F)) :
    after (hostOps1 (F := F)) V0 (Proc.devRef .tc main_v2) = amaxOf (F := F) (V0 (Proc.devRef .tc main_v1)) := by
  simp only [hostOps1]
  after_results <;> rfl

/-- What the host operations of group 1 leave in `main_v3`, from the values before them. -/
theorem hostOps1_v3 (V0 : Valuation τ sig (Elt F)) :
    after (hostOps1 (F := F)) V0 (Proc.devRef .tc main_v3) = overMax (F := F) (amaxOf (F := F) (V0 (Proc.devRef .tc main_v1))) := by
  simp only [hostOps1]
  after_results <;> rfl

/-- What the host operations of group 1 leave in `main_v11`, from the values before them. -/
theorem hostOps1_v11 (V0 : Valuation τ sig (Elt F)) :
    after (hostOps1 (F := F)) V0 (Proc.devRef .tc main_v11) = reached (F := F) (overMax (F := F) (amaxOf (F := F) (V0 (Proc.devRef .tc main_v1)))) := by
  simp only [hostOps1]
  after_results <;> rfl

/-- What the host operations of group 1 leave in `main_c_2`, from the values before them. -/
theorem hostOps1_c_2 (V0 : Valuation τ sig (Elt F)) :
    after (hostOps1 (F := F)) V0 (Proc.devRef .tc main_c_2) = constantI S_ 32 1#32 := by
  simp only [hostOps1]
  after_results <;> rfl

/-- What the host operations of group 1 leave in `main_c_3`, from the values before them. -/
theorem hostOps1_c_3 (V0 : Valuation τ sig (Elt F)) :
    after (hostOps1 (F := F)) V0 (Proc.devRef .tc main_c_3) = constantI S_ 32 0#32 := by
  simp only [hostOps1]
  after_results <;> rfl

/-- What the host operations of group 1, part 1 leave in `main_v12`, from the values before them. -/
theorem hostOps1_1_v12 (V0 : Valuation τ sig (Elt F)) :
    after (hostOps1_1 (F := F)) V0 (Proc.devRef .tc main_v12) = select (V0 (Proc.devRef .tc main_v11)) (broadcastInDim S252 ![] bcast_S_S252 (V0 (Proc.devRef .tc main_c_2))) (broadcastInDim S252 ![] bcast_S_S252 (V0 (Proc.devRef .tc main_c_3))) := by
  simp only [hostOps1_1]
  after_results <;> rfl

/-- What the host operations of group 1, part 2 leave in `main_v15`, from the values before them. -/
theorem hostOps1_2_v15 (V0 : Valuation τ sig (Elt F)) :
    after (hostOps1_2 (F := F)) V0 (Proc.devRef .tc main_v15) = countExp (V0 (Proc.devRef .tc main_v12)) := by
  simp only [hostOps1_2]
  after_results <;> rfl

/-- What the host operations of group 1, part 2 leave in `main_v19`, from the values before them. -/
theorem hostOps1_2_v19 (V0 : Valuation τ sig (Elt F)) :
    after (hostOps1_2 (F := F)) V0 (Proc.devRef .tc main_v19) = special (F := F) (V0 (Proc.devRef .tc main_v3)) := by
  simp only [hostOps1_2]
  after_results <;> rfl

/-- What the host operations of group 1, part 2 leave in `main_c_8`, from the values before them. -/
theorem hostOps1_2_c_8 (V0 : Valuation τ sig (Elt F)) :
    after (hostOps1_2 (F := F)) V0 (Proc.devRef .tc main_c_8) = constantI S_ 32 0#32 := by
  simp only [hostOps1_2]
  after_results <;> rfl

/-- What the host operations of group 1, part 3 leave in `main_v20`, from the values before them. -/
theorem hostOps1_3_v20 (V0 : Valuation τ sig (Elt F)) :
    after (hostOps1_3 (F := F)) V0 (Proc.devRef .tc main_v20) = select (V0 (Proc.devRef .tc main_v19)) (V0 (Proc.devRef .tc main_c_8)) (V0 (Proc.devRef .tc main_v15)) := by
  simp only [hostOps1_3]
  after_results <;> rfl

/-- What the host operations of group 1, part 4 leave in `main_v21`, from the values before them. -/
theorem hostOps1_4_v21 (V0 : Valuation τ sig (Elt F)) :
    after (hostOps1_4 (F := F)) V0 (Proc.devRef .tc main_v21) = cmpf .oeq (V0 (Proc.devRef .tc main_v2)) (constant (F := F) S_ .f32 0x00000000#32) := by
  simp only [hostOps1_4]
  after_results <;> rfl

/-- What the host operations of group 1, part 4 leave in `main_c_10`, from the values before them. -/
theorem hostOps1_4_c_10 (V0 : Valuation τ sig (Elt F)) :
    after (hostOps1_4 (F := F)) V0 (Proc.devRef .tc main_c_10) = constantI S_ 32 0#32 := by
  simp only [hostOps1_4]
  after_results <;> rfl

/-- What the host operations of group 1, part 5 leave in `main_v22`, from the values before them. -/
theorem hostOps1_5_v22 (V0 : Valuation τ sig (Elt F)) :
    after (hostOps1_5 (F := F)) V0 (Proc.devRef .tc main_v22) = select (V0 (Proc.devRef .tc main_v21)) (V0 (Proc.devRef .tc main_c_10)) (V0 (Proc.devRef .tc main_v20)) := by
  simp only [hostOps1_5]
  after_results <;> rfl

/-- What the host operations of group 1, part 6 leave in `main_v25`, from the values before them. -/
theorem hostOps1_6_v25 (V0 : Valuation τ sig (Elt F)) :
    after (hostOps1_6 (F := F)) V0 (Proc.devRef .tc main_v25) = powOf (F := F) (V0 (Proc.devRef .tc main_v22)) := by
  simp only [hostOps1_6]
  after_results <;> rfl

/-- What the host operations of group 1, part 6 leave in `main_v29`, from the values before them. -/
theorem hostOps1_6_v29 (V0 : Valuation τ sig (Elt F)) :
    after (hostOps1_6 (F := F)) V0 (Proc.devRef .tc main_v29) = powOf (F := F) (negi (V0 (Proc.devRef .tc main_v22))) := by
  simp only [hostOps1_6]
  after_results <;> rfl

/-- What the host operations of group 1, part 6 leave in `main_v30`, from the values before them. -/
theorem hostOps1_6_v30 (V0 : Valuation τ sig (Elt F)) :
    after (hostOps1_6 (F := F)) V0 (Proc.devRef .tc main_v30) = shapeCast S1 (powOf (F := F) (negi (V0 (Proc.devRef .tc main_v22))) : Vec F S_ .f32) shapeCasts_S_S1 := by
  simp only [hostOps1_6]
  after_results <;> rfl

/-- The maximum of x, as the host takes it of the maximum pass's result. -/
theorem W3_v2 (c : Dev nD) : W3 m ρ c (Proc.devRef .tc main_v2) = amaxOf (F := F) (W2 m ρ c (Proc.devRef .tc main_v1)) := by
  exact hostOps1_v2 _

/-- The number of powers of two reached, for x. -/
theorem W4_v12 (c : Dev nD) : W4 m ρ c (Proc.devRef .tc main_v12) = ones (reached (F := F) (overMax (F := F) (amaxOf (F := F) (W2 m ρ c (Proc.devRef .tc main_v1))))) := by
  refine (hostOps1_1_v12 _).trans ?_
  rw [show W3 m ρ c (Proc.devRef .tc main_v11) = _ from hostOps1_v11 _, show W3 m ρ c (Proc.devRef .tc main_c_2) = _ from hostOps1_c_2 _, show W3 m ρ c (Proc.devRef .tc main_c_3) = _ from hostOps1_c_3 _]; rfl

/-- The counted exponent, for x. -/
theorem W5_v15 (c : Dev nD) : W5 m ρ c (Proc.devRef .tc main_v15) = countExp (ones (reached (F := F) (overMax (F := F) (amaxOf (F := F) (W2 m ρ c (Proc.devRef .tc main_v1)))))) := by
  refine (hostOps1_2_v15 _).trans ?_
  rw [W4_v12 m ρ c]

/-- Whether the maximum of x is zero or not finite. -/
theorem W5_v19 (c : Dev nD) : W5 m ρ c (Proc.devRef .tc main_v19) = special (F := F) (overMax (F := F) (amaxOf (F := F) (W2 m ρ c (Proc.devRef .tc main_v1)))) := by
  refine (hostOps1_2_v19 _).trans ?_
  rw [W4_of m ρ c main_v3 (by decide), show W3 m ρ c (Proc.devRef .tc main_v3) = _ from hostOps1_v3 _]

/-- The exponent with zero for the special cases, for x. -/
theorem W6_v20 (c : Dev nD) : W6 m ρ c (Proc.devRef .tc main_v20) = select (special (F := F) (overMax (F := F) (amaxOf (F := F) (W2 m ρ c (Proc.devRef .tc main_v1))))) (constantI S_ 32 0#32) (countExp (ones (reached (F := F) (overMax (F := F) (amaxOf (F := F) (W2 m ρ c (Proc.devRef .tc main_v1))))))) := by
  refine (hostOps1_3_v20 _).trans ?_
  rw [W5_v19 m ρ c, W5_v15 m ρ c, show W5 m ρ c (Proc.devRef .tc main_c_8) = _ from hostOps1_2_c_8 _]

/-- The exponent of the scale of x. -/
theorem W8_v22 (c : Dev nD) : W8 m ρ c (Proc.devRef .tc main_v22) = expOf (F := F) (amaxOf (F := F) (W2 m ρ c (Proc.devRef .tc main_v1))) := by
  refine (hostOps1_5_v22 _).trans ?_
  rw [show W7 m ρ c (Proc.devRef .tc main_v21) = _ from hostOps1_4_v21 _, show W7 m ρ c (Proc.devRef .tc main_c_10) = _ from hostOps1_4_c_10 _, W7_of m ρ c main_v20 (by decide), W6_v20 m ρ c, W6_of m ρ c main_v2 (by decide), W5_of m ρ c main_v2 (by decide), W4_of m ρ c main_v2 (by decide), W3_v2 m ρ c]; rfl

/-- The scale. -/
theorem W9_v25 (c : Dev nD) : W9 m ρ c (Proc.devRef .tc main_v25) = powOf (F := F) (expOf (F := F) (amaxOf (F := F) (W2 m ρ c (Proc.devRef .tc main_v1)))) := by
  refine (hostOps1_6_v25 _).trans ?_
  rw [W8_v22 m ρ c]

/-- The inverse scale, as the one-element array the quantiser reads. -/
theorem W9_v30 (c : Dev nD) : W9 m ρ c (Proc.devRef .tc main_v30) = shapeCast S1 (powOf (F := F) (negi (expOf (F := F) (amaxOf (F := F) (W2 m ρ c (Proc.devRef .tc main_v1))))) : Vec F S_ .f32) shapeCasts_S_S1 := by
  refine (hostOps1_6_v30 _).trans ?_
  rw [W8_v22 m ρ c]

/-- The maximum is still there. -/
theorem W9_v2 (c : Dev nD) : W9 m ρ c (Proc.devRef .tc main_v2) = amaxOf (F := F) (W2 m ρ c (Proc.devRef .tc main_v1)) := by
  rw [W9_of m ρ c main_v2 (by decide), W8_of m ρ c main_v2 (by decide), W7_of m ρ c main_v2 (by decide), W6_of m ρ c main_v2 (by decide), W5_of m ρ c main_v2 (by decide), W4_of m ρ c main_v2 (by decide), W3_v2 m ρ c]

/-! ## The scale of y -/

/-- What the host operations of group 3 leave in `main_v35`, from the values before them. -/
theorem hostOps3_v35 (V0 : Valuation τ sig (Elt F)) :
    after (hostOps3 (F := F)) V0 (Proc.devRef .tc main_v35) = amaxOf (F := F) (V0 (Proc.devRef .tc main_v34_1)) := by
  simp only [hostOps3]
  after_results <;> rfl

/-- What the host operations of group 3 leave in `main_v36`, from the values before them. -/
theorem hostOps3_v36 (V0 : Valuation τ sig (Elt F)) :
    after (hostOps3 (F := F)) V0 (Proc.devRef .tc main_v36) = overMax (F := F) (amaxOf (F := F) (V0 (Proc.devRef .tc main_v34_1))) := by
  simp only [hostOps3]
  after_results <;> rfl

/-- What the host operations of group 3 leave in `main_v44`, from the values before them. -/
theorem hostOps3_v44 (V0 : Valuation τ sig (Elt F)) :
    after (hostOps3 (F := F)) V0 (Proc.devRef .tc main_v44) = reached (F := F) (overMax (F := F) (amaxOf (F := F) (V0 (Proc.devRef .tc main_v34_1)))) := by
  simp only [hostOps3]
  after_results <;> rfl

/-- What the host operations of group 3 leave in `main_c_19`, from the values before them. -/
theorem hostOps3_c_19 (V0 : Valuation τ sig (Elt F)) :
    after (hostOps3 (F := F)) V0 (Proc.devRef .tc main_c_19) = constantI S_ 32 1#32 := by
  simp only [hostOps3]
  after_results <;> rfl

/-- What the host operations of group 3 leave in `main_c_20`, from the values before them. -/
theorem hostOps3_c_20 (V0 : Valuation τ sig (Elt F)) :
    after (hostOps3 (F := F)) V0 (Proc.devRef .tc main_c_20) = constantI S_ 32 0#32 := by
  simp only [hostOps3]
  after_results <;> rfl

/-- What the host operations of group 3, part 1 leave in `main_v45`, from the values before them. -/
theorem hostOps3_1_v45 (V0 : Valuation τ sig (Elt F)) :
    after (hostOps3_1 (F := F)) V0 (Proc.devRef .tc main_v45) = select (V0 (Proc.devRef .tc main_v44)) (broadcastInDim S252 ![] bcast_S_S252 (V0 (Proc.devRef .tc main_c_19))) (broadcastInDim S252 ![] bcast_S_S252 (V0 (Proc.devRef .tc main_c_20))) := by
  simp only [hostOps3_1]
  after_results <;> rfl

/-- What the host operations of group 3, part 2 leave in `main_v48`, from the values before them. -/
theorem hostOps3_2_v48 (V0 : Valuation τ sig (Elt F)) :
    after (hostOps3_2 (F := F)) V0 (Proc.devRef .tc main_v48) = countExp (V0 (Proc.devRef .tc main_v45)) := by
  simp only [hostOps3_2]
  after_results <;> rfl

/-- What the host operations of group 3, part 2 leave in `main_v52`, from the values before them. -/
theorem hostOps3_2_v52 (V0 : Valuation τ sig (Elt F)) :
    after (hostOps3_2 (F := F)) V0 (Proc.devRef .tc main_v52) = special (F := F) (V0 (Proc.devRef .tc main_v36)) := by
  simp only [hostOps3_2]
  after_results <;> rfl

/-- What the host operations of group 3, part 2 leave in `main_c_25`, from the values before them. -/
theorem hostOps3_2_c_25 (V0 : Valuation τ sig (Elt F)) :
    after (hostOps3_2 (F := F)) V0 (Proc.devRef .tc main_c_25) = constantI S_ 32 0#32 := by
  simp only [hostOps3_2]
  after_results <;> rfl

/-- What the host operations of group 3, part 3 leave in `main_v53`, from the values before them. -/
theorem hostOps3_3_v53 (V0 : Valuation τ sig (Elt F)) :
    after (hostOps3_3 (F := F)) V0 (Proc.devRef .tc main_v53) = select (V0 (Proc.devRef .tc main_v52)) (V0 (Proc.devRef .tc main_c_25)) (V0 (Proc.devRef .tc main_v48)) := by
  simp only [hostOps3_3]
  after_results <;> rfl

/-- What the host operations of group 3, part 4 leave in `main_v54`, from the values before them. -/
theorem hostOps3_4_v54 (V0 : Valuation τ sig (Elt F)) :
    after (hostOps3_4 (F := F)) V0 (Proc.devRef .tc main_v54) = cmpf .oeq (V0 (Proc.devRef .tc main_v35)) (constant (F := F) S_ .f32 0x00000000#32) := by
  simp only [hostOps3_4]
  after_results <;> rfl

/-- What the host operations of group 3, part 4 leave in `main_c_27`, from the values before them. -/
theorem hostOps3_4_c_27 (V0 : Valuation τ sig (Elt F)) :
    after (hostOps3_4 (F := F)) V0 (Proc.devRef .tc main_c_27) = constantI S_ 32 0#32 := by
  simp only [hostOps3_4]
  after_results <;> rfl

/-- What the host operations of group 3, part 5 leave in `main_v55`, from the values before them. -/
theorem hostOps3_5_v55 (V0 : Valuation τ sig (Elt F)) :
    after (hostOps3_5 (F := F)) V0 (Proc.devRef .tc main_v55) = select (V0 (Proc.devRef .tc main_v54)) (V0 (Proc.devRef .tc main_c_27)) (V0 (Proc.devRef .tc main_v53)) := by
  simp only [hostOps3_5]
  after_results <;> rfl

/-- What the host operations of group 3, part 6 leave in `main_v58`, from the values before them. -/
theorem hostOps3_6_v58 (V0 : Valuation τ sig (Elt F)) :
    after (hostOps3_6 (F := F)) V0 (Proc.devRef .tc main_v58) = powOf (F := F) (V0 (Proc.devRef .tc main_v55)) := by
  simp only [hostOps3_6]
  after_results <;> rfl

/-- What the host operations of group 3, part 6 leave in `main_v62`, from the values before them. -/
theorem hostOps3_6_v62 (V0 : Valuation τ sig (Elt F)) :
    after (hostOps3_6 (F := F)) V0 (Proc.devRef .tc main_v62) = powOf (F := F) (negi (V0 (Proc.devRef .tc main_v55))) := by
  simp only [hostOps3_6]
  after_results <;> rfl

/-- What the host operations of group 3, part 6 leave in `main_v63`, from the values before them. -/
theorem hostOps3_6_v63 (V0 : Valuation τ sig (Elt F)) :
    after (hostOps3_6 (F := F)) V0 (Proc.devRef .tc main_v63) = shapeCast S1 (powOf (F := F) (negi (V0 (Proc.devRef .tc main_v55))) : Vec F S_ .f32) shapeCasts_S_S1 := by
  simp only [hostOps3_6]
  after_results <;> rfl

/-- The maximum of y, as the host takes it of the matmul's running maximum. -/
theorem W13_v35 (c : Dev nD) : W13 m ρ c (Proc.devRef .tc main_v35) = amaxOf (F := F) (W12 m ρ c (Proc.devRef .tc main_v34_1)) := by
  exact hostOps3_v35 _

/-- The number of powers of two reached, for y. -/
theorem W14_v45 (c : Dev nD) : W14 m ρ c (Proc.devRef .tc main_v45) = ones (reached (F := F) (overMax (F := F) (amaxOf (F := F) (W12 m ρ c (Proc.devRef .tc main_v34_1))))) := by
  refine (hostOps3_1_v45 _).trans ?_
  rw [show W13 m ρ c (Proc.devRef .tc main_v44) = _ from hostOps3_v44 _, show W13 m ρ c (Proc.devRef .tc main_c_19) = _ from hostOps3_c_19 _, show W13 m ρ c (Proc.devRef .tc main_c_20) = _ from hostOps3_c_20 _]; rfl

/-- The counted exponent, for y. -/
theorem W15_v48 (c : Dev nD) : W15 m ρ c (Proc.devRef .tc main_v48) = countExp (ones (reached (F := F) (overMax (F := F) (amaxOf (F := F) (W12 m ρ c (Proc.devRef .tc main_v34_1)))))) := by
  refine (hostOps3_2_v48 _).trans ?_
  rw [W14_v45 m ρ c]

/-- Whether the maximum of y is zero or not finite. -/
theorem W15_v52 (c : Dev nD) : W15 m ρ c (Proc.devRef .tc main_v52) = special (F := F) (overMax (F := F) (amaxOf (F := F) (W12 m ρ c (Proc.devRef .tc main_v34_1)))) := by
  refine (hostOps3_2_v52 _).trans ?_
  rw [W14_of m ρ c main_v36 (by decide), show W13 m ρ c (Proc.devRef .tc main_v36) = _ from hostOps3_v36 _]

/-- The exponent with zero for the special cases, for y. -/
theorem W16_v53 (c : Dev nD) : W16 m ρ c (Proc.devRef .tc main_v53) = select (special (F := F) (overMax (F := F) (amaxOf (F := F) (W12 m ρ c (Proc.devRef .tc main_v34_1))))) (constantI S_ 32 0#32) (countExp (ones (reached (F := F) (overMax (F := F) (amaxOf (F := F) (W12 m ρ c (Proc.devRef .tc main_v34_1))))))) := by
  refine (hostOps3_3_v53 _).trans ?_
  rw [W15_v52 m ρ c, W15_v48 m ρ c, show W15 m ρ c (Proc.devRef .tc main_c_25) = _ from hostOps3_2_c_25 _]

/-- The exponent of the scale of y. -/
theorem W18_v55 (c : Dev nD) : W18 m ρ c (Proc.devRef .tc main_v55) = expOf (F := F) (amaxOf (F := F) (W12 m ρ c (Proc.devRef .tc main_v34_1))) := by
  refine (hostOps3_5_v55 _).trans ?_
  rw [show W17 m ρ c (Proc.devRef .tc main_v54) = _ from hostOps3_4_v54 _, show W17 m ρ c (Proc.devRef .tc main_c_27) = _ from hostOps3_4_c_27 _, W17_of m ρ c main_v53 (by decide), W16_v53 m ρ c, W16_of m ρ c main_v35 (by decide), W15_of m ρ c main_v35 (by decide), W14_of m ρ c main_v35 (by decide), W13_v35 m ρ c]; rfl

/-- The scale. -/
theorem W19_v58 (c : Dev nD) : W19 m ρ c (Proc.devRef .tc main_v58) = powOf (F := F) (expOf (F := F) (amaxOf (F := F) (W12 m ρ c (Proc.devRef .tc main_v34_1)))) := by
  refine (hostOps3_6_v58 _).trans ?_
  rw [W18_v55 m ρ c]

/-- The inverse scale, as the one-element array the quantiser reads. -/
theorem W19_v63 (c : Dev nD) : W19 m ρ c (Proc.devRef .tc main_v63) = shapeCast S1 (powOf (F := F) (negi (expOf (F := F) (amaxOf (F := F) (W12 m ρ c (Proc.devRef .tc main_v34_1))))) : Vec F S_ .f32) shapeCasts_S_S1 := by
  refine (hostOps3_6_v63 _).trans ?_
  rw [W18_v55 m ρ c]

/-- The maximum is still there. -/
theorem W19_v35 (c : Dev nD) : W19 m ρ c (Proc.devRef .tc main_v35) = amaxOf (F := F) (W12 m ρ c (Proc.devRef .tc main_v34_1)) := by
  rw [W19_of m ρ c main_v35 (by decide), W18_of m ρ c main_v35 (by decide), W17_of m ρ c main_v35 (by decide), W16_of m ρ c main_v35 (by decide), W15_of m ρ c main_v35 (by decide), W14_of m ρ c main_v35 (by decide), W13_v35 m ρ c]

end Cert.KernelIdeal.Gen
-- ==== Proof.Scale.lean ====
module

public import Idealize.ShloMosaic.PureOps.Ideal.Laws
public import Idealize.ShloMosaic.PureOps.Reduce
public import Idealize.ShloMosaic.Lib.IdealHost
public import Idealize.ShloMosaic.Lib.IndicatorCount
public import Mathlib.Analysis.SpecialFunctions.Log.Basic
public import Mathlib.Order.Interval.Finset.Nat

@[expose] public section

noncomputable section

namespace Cert.Math

open Idealize.ShloMosaic

/-- The constant both programs multiply the maximum by: the 32-bit float next to 1/448. -/
def inv448 : ℝ := 9586981 * (2 : ℝ) ^ (-32 : ℤ)

/-- The constant 1/448, as rounded to f32, is positive. -/
theorem inv448_pos : 0 < inv448 := by unfold inv448; positivity

/-- The word of that constant reads as it. -/
theorem ofBits_inv448 : (Ideal.ofBits .f32 0x3B124925#32 : EReal) = (inv448 : EReal) := by
  simp [Ideal.ofBits, Ideal.ieee, inv448, -EReal.coe_mul]

/-- The word of infinity reads as infinity. -/
theorem ofBits_inf : (Ideal.ofBits .f32 0x7F800000#32 : EReal) = ⊤ := by
  simp [Ideal.ofBits, Ideal.ieee]

/-- The word of 2 reads as 2. -/
theorem ofBits_two : (Ideal.ofBits .f32 0x40000000#32 : EReal) = ((2 : ℝ) : EReal) := by
  simp [Ideal.ofBits, Ideal.ieee, -EReal.coe_mul]; norm_num

/-- The exponent of the scale: for a maximum that is positive and whose 448th part is finite, one more than the base-2
    logarithm's floor, clamped to ±126 — 0 otherwise. -/
def scaleExp (a : EReal) : ℤ :=
  if a = 0 ∨ ¬ a * (inv448 : EReal) < ⊤ then 0
  else max (-126) (min 126 (⌊Real.log (a * (inv448 : EReal)).toReal / Real.log 2⌋ + 1))

/-- The exponent of a scale is between -126 and 126. -/
theorem scaleExp_bounds (a : EReal) : -126 ≤ scaleExp a ∧ scaleExp a ≤ 126 := by
  unfold scaleExp; split <;> omega

/-- A power of two as an extended real. -/
def pow2 (e : ℤ) : EReal := (((2 : ℝ) ^ e : ℝ) : EReal)

/-- The bit pattern with exponent field `n`, from 1 to 254, and zero fraction is the power of two `n - 127`. -/
theorem ofBits_pow2 (n : ℕ) (h1 : 1 ≤ n) (h2 : n ≤ 254) :
    (Ideal.ofBits .f32 (BitVec.ofNat 32 n <<< 23) : EReal) = pow2 ((n : ℤ) - 127) := by
  have hx : (BitVec.ofNat 32 n <<< 23).toNat = n * 2 ^ 23 := by
    rw [BitVec.toNat_shiftLeft, BitVec.toNat_ofNat, Nat.shiftLeft_eq]; omega
  have hneg : ((BitVec.ofNat 32 n <<< 23).extractLsb' (8 + 23) 1 == 1#1) = false := by
    rw [beq_eq_false_iff_ne]
    intro h
    have := congrArg BitVec.toNat h
    rw [BitVec.extractLsb'_toNat, hx, Nat.shiftRight_eq_div_pow] at this
    simp at this
    omega
  have hex : ((BitVec.ofNat 32 n <<< 23).extractLsb' 23 8).toNat = n := by
    rw [BitVec.extractLsb'_toNat, hx, Nat.shiftRight_eq_div_pow]; omega
  have hfr : ((BitVec.ofNat 32 n <<< 23).extractLsb' 0 23).toNat = 0 := by
    rw [BitVec.extractLsb'_toNat, hx, Nat.shiftRight_eq_div_pow]; omega
  show Ideal.ieee 8 23 (BitVec.ofNat 32 n <<< 23) = _
  unfold Ideal.ieee
  simp only [hneg, hex, hfr]
  rw [if_neg (by omega), if_neg (by omega)]
  unfold pow2
  refine congrArg (fun r : ℝ => (r : EReal)) ?_
  have : ((n : ℤ) - 127) = 23 + ((n : ℤ) - (2 ^ (8 - 1) - 1) - (23 : ℕ)) := by norm_num
  rw [this, zpow_add₀ (by norm_num : (2 : ℝ) ≠ 0)]
  norm_num

/-- A 32-bit word holding an integer from -126 to 126, plus 127, shifted to the exponent field, reads as that power of two. -/
theorem ofBits_word (e : ℤ) (h1 : -126 ≤ e) (h2 : e ≤ 126) :
    (Ideal.ofBits .f32 (IntOp.shli .host (IntOp.addi (BitVec.ofInt 32 e) 127#32) 23#32) : EReal) = pow2 e := by
  obtain ⟨n, hn⟩ : ∃ n : ℕ, (n : ℤ) = e + 127 := ⟨(e + 127).toNat, by omega⟩
  have hw : IntOp.addi (BitVec.ofInt 32 e) 127#32 = BitVec.ofNat 32 n := by
    show BitVec.ofInt 32 e + 127#32 = _
    rw [show (127#32 : BitVec 32) = BitVec.ofInt 32 127 from rfl, ← BitVec.ofInt_add, ← hn, BitVec.ofInt_natCast]
  rw [hw]
  show Ideal.ofBits .f32 (if (23#32 : BitVec 32).toNat < 32 then BitVec.ofNat 32 n <<< (23#32 : BitVec 32) else _) = _
  rw [if_pos (by decide)]
  have := ofBits_pow2 n (by omega) (by omega)
  rw [show ((n : ℤ) - 127) = e by omega] at this
  exact this

/-- The negated word is the negated integer's. -/
theorem negi_ofInt (e : ℤ) : -(BitVec.ofInt 32 e) = BitVec.ofInt 32 (-e) := by
  rw [BitVec.ofInt_neg]

/-- How many of the 252 powers of two from 2^-126 up are at most a positive number: its logarithm's floor plus 127, clamped. -/
theorem card_powers (v : ℝ) (hv : 0 < v) :
    ((Finset.univ.filter fun k : Fin 252 => (2 : ℝ) ^ ((k.val : ℤ) - 126) ≤ v).card : ℤ) - 126
      = max (-126) (min 126 (⌊Real.log v / Real.log 2⌋ + 1)) := by
  have hp : ∀ e : ℤ, (2 : ℝ) ^ e ≤ v ↔ e ≤ ⌊Real.log v / Real.log 2⌋ := fun e => by
    rw [Int.le_floor, le_div_iff₀ (Real.log_pos (by norm_num)), ← Real.log_zpow, Real.log_le_log_iff (by positivity) hv]
  generalize ⌊Real.log v / Real.log 2⌋ = L at hp ⊢
  have hc : (Finset.univ.filter fun k : Fin 252 => (2 : ℝ) ^ ((k.val : ℤ) - 126) ≤ v).card = min 252 (L + 127).toNat := by
    have e1 : (Finset.univ.filter fun k : Fin 252 => (2 : ℝ) ^ ((k.val : ℤ) - 126) ≤ v)
        = Finset.univ.filter fun k : Fin 252 => k.val < (L + 127).toNat :=
      Finset.filter_congr fun k _ => by rw [hp]; omega
    rw [e1, Fin.card_filter_val_lt]
  rw [hc]; omega

/-- A positive maximum's 448th part is a positive real, when it is finite. -/
theorem over_real (a : EReal) (h0 : 0 ≤ a) (ha : a ≠ 0) (ht : a * (inv448 : EReal) < ⊤) :
    ∃ v : ℝ, 0 < v ∧ a * (inv448 : EReal) = (v : EReal) := by
  induction a with
  | bot => exact absurd h0 (by simp)
  | top => exact absurd ht (by rw [EReal.top_mul_coe_of_pos inv448_pos]; simp)
  | coe r =>
    have hr : 0 < r := lt_of_le_of_ne (EReal.coe_nonneg.mp h0) (fun h => ha (by rw [← h]; rfl))
    exact ⟨r * inv448, mul_pos hr inv448_pos, (EReal.coe_mul _ _).symm⟩

/-- The 448th part of a nonnegative number is zero only when the number is. -/
theorem over_eq_zero (a : EReal) (h0 : 0 ≤ a) : a * (inv448 : EReal) = 0 ↔ a = 0 := by
  constructor
  · intro h
    by_contra ha
    by_cases ht : a * (inv448 : EReal) < ⊤
    · obtain ⟨v, hv, e⟩ := over_real a h0 ha ht
      rw [e] at h
      exact absurd (EReal.coe_eq_zero.mp h) hv.ne'
    · rw [h] at ht; exact ht (by simp)
  · rintro rfl; simp

/-- The bit of a decision is one exactly when it holds. -/
theorem ofBool_eq_one (p : Prop) [Decidable p] : BitVec.ofBool (decide p) = 1#1 ↔ p := by
  by_cases h : p <;> simp [h]

end Cert.Math
-- ==== Proof.ScaleKernel.lean ====
module

public import proofs.«01_k».proof.Proof.HostReads
public import proofs.«01_k».proof.Proof.Scale
public import proofs.«01_k».proof.Proof.Maxes
public import Idealize.ShloMosaic.Lib.ValueIdx

@[expose] public section

noncomputable section

namespace Cert.KernelIdeal.Gen

open Idealize.ShloMosaic Idealize.ShloMosaic.ValueIdx Cert.Math

/-- The maximum of the partial maxima is at most `b` exactly when each of them is. -/
theorem amaxOf_le (p : Vec Ideal S8x128 .f32) (i : S_.Idx) (b : EReal) :
    (amaxOf (F := Ideal) p i : EReal) ≤ b ↔ ∀ j : S8x128.Idx, (p j : EReal) ≤ b := by
  unfold amaxOf
  refine (Cert.Maxes.hostReduce_le _ _ _ _ Cert.Maxes.ofBits_neg_inf i b).trans ?_
  exact ⟨fun H j => H j (funext fun a => a.elim0), fun H j _ => H j⟩

/-- Power `k` of the table is 2^(k - 126). -/
theorem powers_apply (k : Fin 252) : (powers (F := Ideal) (ix1 k) : EReal) = pow2 ((k.val : ℤ) - 126) := by
  show Ideal.ofBits .f32 (IntOp.shli .host (IntOp.addi (BitVec.ofNat 32 k.val) 1#32) 23#32) = _
  have hk := k.isLt
  have hw : IntOp.addi (BitVec.ofNat 32 k.val) 1#32 = BitVec.ofNat 32 (k.val + 1) := by
    show BitVec.ofNat 32 k.val + BitVec.ofNat 32 1 = _
    rw [BitVec.ofNat_add]
  rw [hw]
  show Ideal.ofBits .f32 (if (23#32 : BitVec 32).toNat < 32 then BitVec.ofNat 32 (k.val + 1) <<< (23#32 : BitVec 32) else _) = _
  rw [if_pos (by decide)]
  have := ofBits_pow2 (k.val + 1) (by omega) (by omega)
  rw [show (((k.val + 1 : ℕ) : ℤ) - 127) = (k.val : ℤ) - 126 by omega] at this
  exact this

/-- The count less 126, of any bits: the number of ones among them, less 126, as a word. -/
theorem countExp_apply (b : IVec S252 1) (i : S_.Idx) :
    countExp (ones b) i = BitVec.ofNat 32 (Finset.univ.filter fun k : Fin 252 => b (ix1 k) = 1#1).card - 126#32 := by
  unfold countExp
  show IntOp.subi (Host.reduce IntOp.addi (ones b) _ reducesTo_S252_S_d0 h_S_ i) 126#32 = _
  rw [Host.reduce_eq_fold]
  have e1 : (ones b) = fun k => (b k).setWidth 32 := by
    funext k
    show Scalar.select (b k) 1#32 0#32 = _
    rcases BitVec.eq_zero_or_eq_one (b k) with h | h <;> rw [h] <;> rfl
  rw [e1]
  show IntOp.subi (Finset.fold IntOp.addi 0#32 (fun k => (b k).setWidth 32) _) 126#32 = _
  rw [IndicatorCount.fold_addi_setWidth_eq_card]
  show BitVec.ofNat 32 _ - 126#32 = _
  congr 2
  refine Finset.card_bij (fun k _ => (k 0 : Fin 252)) (fun k hk => ?_) (fun k₁ _ k₂ _ h => ?_) (fun k hk => ?_)
  · exact Finset.mem_filter.mpr ⟨Finset.mem_univ _, (congrArg (fun q => b q = 1#1) (eq_ix1 k)).mp (Finset.mem_filter.mp hk).2⟩
  · rw [eq_ix1 k₁, eq_ix1 k₂]; exact congrArg ix1 h
  · refine ⟨ix1 k, ?_, rfl⟩
    rw [Finset.mem_filter, Finset.mem_filter]
    exact ⟨⟨Finset.mem_univ _, funext fun a => a.elim0⟩, (Finset.mem_filter.mp hk).2⟩

/-- The program's exponent of a nonnegative maximum is the scale's exponent, as a word. -/
theorem expOf_apply (a : Vec Ideal S_ .f32) (i : S_.Idx) (h0 : (0 : EReal) ≤ a i) :
    expOf (F := Ideal) a i = BitVec.ofInt 32 (scaleExp (a i)) := by
  have hv : ∀ j, (overMax (F := Ideal) a j : EReal) = (a i : EReal) * (inv448 : EReal) := fun j => by
    obtain rfl : j = i := funext fun a => a.elim0
    show (a j : EReal) * Ideal.ofBits .f32 0x3B124925#32 = _
    rw [ofBits_inv448]
  have hz : cmpf (F := Ideal) .oeq a (constant S_ .f32 0x00000000#32) i = BitVec.ofBool (decide ((a i : EReal) = 0)) := by
    show BitVec.ofBool (decide ((a i : EReal) = Ideal.ofBits .f32 0x00000000#32)) = _
    rw [Ideal.ofBits_zero_f32]
  have hs : special (F := Ideal) (overMax a) i
      = (BitVec.ofBool (decide ((a i : EReal) * (inv448 : EReal) = 0)) ||| ~~~ BitVec.ofBool (decide ((a i : EReal) * (inv448 : EReal) < ⊤))) := by
    show (BitVec.ofBool (decide ((overMax (F := Ideal) a i : EReal) = Ideal.ofBits .f32 0x00000000#32)) ||| ~~~ BitVec.ofBool (decide ((overMax (F := Ideal) a i : EReal) < Ideal.ofBits .f32 0x7F800000#32))) = _
    rw [Ideal.ofBits_zero_f32, ofBits_inf, hv]
  unfold expOf
  show Scalar.select (cmpf (F := Ideal) .oeq a (constant S_ .f32 0x00000000#32) i) 0#32
    (Scalar.select (special (F := Ideal) (overMax a) i) 0#32 (countExp (ones (reached (F := Ideal) (overMax a))) i)) = _
  rw [hz, hs]
  unfold scaleExp
  by_cases ha : (a i : EReal) = 0
  · rw [if_pos (Or.inl ha)]; simp [ha, Scalar.select]
  by_cases ht : (a i : EReal) * (inv448 : EReal) < ⊤
  · rw [if_neg (by simp [ha, ht])]
    obtain ⟨v, hv0, e⟩ := over_real (a i) h0 ha ht
    have hne : ¬ (a i : EReal) * (inv448 : EReal) = 0 := fun h => ha ((over_eq_zero _ h0).mp h)
    rw [show Scalar.select (BitVec.ofBool (decide ((a i : EReal) = 0))) 0#32 _ = _ from if_neg (by simp [ha])]
    rw [show Scalar.select _ 0#32 _ = _ from if_neg (by simp [hne, ht])]
    rw [countExp_apply, e, EReal.toReal_coe, ← card_powers v hv0]
    have hb : ∀ k : Fin 252, reached (F := Ideal) (overMax a) (ix1 k) = 1#1 ↔ (2 : ℝ) ^ ((k.val : ℤ) - 126) ≤ v := fun k => by
      show BitVec.ofBool (decide ((powers (F := Ideal) (ix1 k) : EReal) ≤ (overMax (F := Ideal) a _ : EReal))) = 1#1 ↔ _
      rw [ofBool_eq_one, powers_apply, hv, e]
      exact EReal.coe_le_coe_iff
    rw [Finset.filter_congr fun k _ => hb k]
    rw [sub_eq_add_neg, BitVec.ofInt_add, BitVec.ofInt_natCast, BitVec.sub_eq_add_neg]; rfl
  · rw [if_pos (Or.inr ht)]
    rw [show Scalar.select (BitVec.ofBool (decide ((a i : EReal) = 0))) 0#32 _ = _ from if_neg (by simp [ha])]
    rw [show Scalar.select _ 0#32 _ = _ from if_pos (by rw [decide_eq_false ht]; cases decide ((a i : EReal) * (inv448 : EReal) = 0) <;> rfl)]
    rfl

/-- The power of two built from an exponent word. -/
theorem powOf_apply (e : IVec S_ 32) (i : S_.Idx) (n : ℤ) (he : e i = BitVec.ofInt 32 n) (h1 : -126 ≤ n) (h2 : n ≤ 126) :
    (powOf (F := Ideal) e i : EReal) = pow2 n := by
  show Ideal.ofBits .f32 (IntOp.shli .host (IntOp.addi (e i) 127#32) 23#32) = _
  rw [he, ofBits_word n h1 h2]

/-- The scale built from a nonnegative maximum. -/
theorem scale_apply (a : Vec Ideal S_ .f32) (i : S_.Idx) (h0 : (0 : EReal) ≤ a i) :
    (powOf (F := Ideal) (expOf (F := Ideal) a) i : EReal) = pow2 (scaleExp (a i)) :=
  powOf_apply _ i _ (expOf_apply a i h0) (scaleExp_bounds _).1 (scaleExp_bounds _).2

/-- The inverse scale built from a nonnegative maximum. -/
theorem inv_apply (a : Vec Ideal S_ .f32) (i : S_.Idx) (h0 : (0 : EReal) ≤ a i) :
    (powOf (F := Ideal) (negi (expOf (F := Ideal) a)) i : EReal) = pow2 (-scaleExp (a i)) := by
  have hb := scaleExp_bounds (a i)
  refine powOf_apply _ i _ ?_ (by omega) (by omega)
  show -(expOf (F := Ideal) a i) = _
  rw [expOf_apply a i h0, negi_ofInt]

end Cert.KernelIdeal.Gen
-- ==== Proof.KernelValues.lean ====
module

public import proofs.«01_k».proof.Proof.Amax
public import proofs.«01_k».proof.Proof.HostReads
public import proofs.«01_k».proof.Proof.ScaleKernel

@[expose] public section

set_option maxRecDepth 16384

noncomputable section

namespace Cert.Math

open Idealize.ShloMosaic

/-- The codes of an array whose maximum is `A`: each element times the inverse scale, clipped to ±448, cast. -/
def codesOf {S : Shape} (x : S.Idx → EReal) (A : EReal) : S.Idx → EReal :=
  fun i => Cert.KernelIdeal.Gen.quant (F := Ideal) (x i) (pow2 (-scaleExp A))

/-- The product of the codes of x with the weights, times both scales. -/
def productOf (x : (⟨2, ![9216, 16384]⟩ : Shape).Idx → EReal) (w : (⟨2, ![16384, 6144]⟩ : Shape).Idx → EReal) (s A : EReal) :
    (⟨2, ![9216, 6144]⟩ : Shape).Idx → EReal :=
  product (codesOf x A) w (pow2 (scaleExp A) * s)

end Cert.Math

namespace Cert.KernelIdeal.Gen

open Idealize.ShloMosaic Idealize.ShloMosaic.TcCoe Idealize.ShloMosaic.Tactic Idealize.SL.Sem Idealize.ShloMosaic.StableHlo Cert.Math

/-- The one index of a scalar. -/
abbrev z0 : S_.Idx := fun a => a.elim0
/-- Every index of a scalar is that one. -/
theorem z0_eq (i : S_.Idx) : i = z0 := funext fun a => a.elim0

section Reads
variable {F : FTy → Type} [FloatOps F]

/-- What the host operations of group 0 leave in `main_v0`, from the values before them. -/
theorem hostOps0_v0 (V0 : Valuation τ sig (Elt F)) :
    after (hostOps0 (F := F)) V0 (Proc.devRef .tc main_v0) = shapeCast S9216x16384 (V0 (Proc.devRef .tc main_arg0)) shapeCasts_S6x1536x16384_S9216x16384 := by
  simp only [hostOps0]
  after_results <;> rfl

/-- What the host operations of group 2 leave in `main_v33`, from the values before them. -/
theorem hostOps2_v33 (V0 : Valuation τ sig (Elt F)) :
    after (hostOps2 (F := F)) V0 (Proc.devRef .tc main_v33)
      = shapeCast S1 (mulf (V0 (Proc.devRef .tc main_v25)) (V0 (Proc.devRef .tc main_arg2)) : Vec F S_ .f32) shapeCasts_S_S1 := by
  simp only [hostOps2]
  after_results <;> rfl

/-- What the host operations of group 4 leave in `main_v65`, from the values before them. -/
theorem hostOps4_v65 (V0 : Valuation τ sig (Elt F)) :
    after (hostOps4 (F := F)) V0 (Proc.devRef .tc main_v65) = shapeCast S6x1536x6144 (V0 (Proc.devRef .tc main_v64)) shapeCasts_S9216x6144_S6x1536x6144 := by
  simp only [hostOps4]
  after_results <;> rfl

/-- What the host operations of group 4 leave in `main_v66`, from the values before them. -/
theorem hostOps4_v66 (V0 : Valuation τ sig (Elt F)) :
    after (hostOps4 (F := F)) V0 (Proc.devRef .tc main_v66) = shapeCast S6x1536x16384 (V0 (Proc.devRef .tc main_v31)) shapeCasts_S9216x16384_S6x1536x16384 := by
  simp only [hostOps4]
  after_results <;> rfl
end Reads

variable (m : (ℓ : Loc nD τ sig) → Buf (Elt Ideal) ℓ) (ρ : Dev nD → PrngReg)

/-- The input x as a matrix. -/
abbrev xMat (c : Dev nD) : Vec Ideal S9216x16384 .bf16 := shapeCast S9216x16384 (m ((c : Thread nD τ).loc main_arg0)) shapeCasts_S6x1536x16384_S9216x16384
/-- The weights. -/
abbrev wMat (c : Dev nD) : Vec Ideal S16384x6144 .fp8e4m3 := m ((c : Thread nD τ).loc main_arg1)
/-- The weights' scale. -/
abbrev wScale (c : Dev nD) : EReal := (m ((c : Thread nD τ).loc main_arg2) : Vec Ideal S_ .f32) z0
/-- The maximum the kernel takes of x. -/
abbrev xMax (c : Dev nD) : EReal := amaxOf (F := Ideal) (W2 m ρ c (Proc.devRef .tc main_v1)) z0
/-- The maximum the kernel takes of the product. -/
abbrev yMax (c : Dev nD) : EReal := amaxOf (F := Ideal) (W12 m ρ c (Proc.devRef .tc main_v34_1)) z0
/-- The product the kernel takes. -/
abbrev yMat (c : Dev nD) : Vec Ideal S9216x6144 .f32 := productOf (xMat m c) (wMat m c) (wScale m c) (xMax m ρ c)

/-- Before the maximum pass the matrix is x reshaped. -/
theorem W1_v0 (c : Dev nD) : W1 m ρ c (Proc.devRef .tc main_v0) = xMat m c := hostOps0_v0 _

/-- The matrix is still x reshaped when the quantiser of x starts. -/
theorem W9_v0 (c : Dev nD) : W9 m ρ c (Proc.devRef .tc main_v0) = xMat m c := by
  rw [W9_of m ρ c main_v0 (by decide), W8_of m ρ c main_v0 (by decide), W7_of m ρ c main_v0 (by decide), W6_of m ρ c main_v0 (by decide), W5_of m ρ c main_v0 (by decide), W4_of m ρ c main_v0 (by decide), W3_of m ρ c main_v0 (by decide),
    W2_of m ρ c main_v0 (by decide), W1_v0]

/-- The kernel's maximum of x bounds zero and every element outside the first block: that block is left out. -/
theorem xMax_le (c : Dev nD) (b : EReal) : xMax m ρ c ≤ b ↔
    0 ≤ b ∧ ∀ i : S9216x16384.Idx, ¬((i 0).val < 256 ∧ (i 1).val < 8192) → eabs (xMat m c i) ≤ b := by
  refine (amaxOf_le _ z0 b).trans ?_
  rw [show W2 m ρ c (Proc.devRef .tc main_v1) = part0 (V1 m ρ) c from W2_arr m ρ c 1]
  refine (final0_le (V1 m ρ) c b).trans ?_
  rw [show V1 m ρ c main_v0 = xMat m c from W1_v0 m ρ c]

/-- The kernel's maximum of x is at least zero. -/
theorem xMax_nonneg (c : Dev nD) : 0 ≤ xMax m ρ c := ((xMax_le m ρ c _).mp le_rfl).1

/-- The codes of x after the quantiser. -/
theorem W10_v31 (c : Dev nD) : W10 m ρ c (Proc.devRef .tc main_v31) = codesOf (xMat m c) (xMax m ρ c) := by
  refine (W10_arr m ρ c 2).trans ((final1 (V9 m ρ) c).trans ?_)
  unfold codesX
  rw [show V9 m ρ c main_v0 = xMat m c from W9_v0 m ρ c, show V9 m ρ c main_v30 = _ from W9_v30 m ρ c]
  funext i
  refine congrArg (fun s : EReal => quant (F := Ideal) (xMat m c i) s) ?_
  refine (inv_apply (amaxOf (F := Ideal) (W2 m ρ c (Proc.devRef .tc main_v1))) _ ?_).trans ?_
  · rw [z0_eq (Shape.reshapeEquiv _ _)]; exact xMax_nonneg m ρ c
  · rw [z0_eq (Shape.reshapeEquiv _ _)]

/-- The scale of x. -/
theorem W9_v25_apply (c : Dev nD) (i : S_.Idx) : (W9 m ρ c (Proc.devRef .tc main_v25) : Vec Ideal S_ .f32) i = pow2 (scaleExp (xMax m ρ c)) := by
  rw [W9_v25, z0_eq i]
  exact scale_apply (amaxOf (F := Ideal) (W2 m ρ c (Proc.devRef .tc main_v1))) z0 (xMax_nonneg m ρ c)

/-- The quantiser of x leaves the scale of x as it was. -/
theorem W10_v25 (c : Dev nD) : W10 m ρ c (Proc.devRef .tc main_v25) = W9 m ρ c (Proc.devRef .tc main_v25) := W10_of m ρ c main_v25 (by decide)

/-- The product's scale: the scale of x times the weights'. -/
theorem W11_v33 (c : Dev nD) : (W11 m ρ c (Proc.devRef .tc main_v33) : Vec Ideal S1 .f32) z1 = pow2 (scaleExp (xMax m ρ c)) * wScale m c := by
  rw [show W11 m ρ c (Proc.devRef .tc main_v33) = _ from hostOps2_v33 _, W10_v25, W10_args m ρ c main_arg2 (by decide)]
  refine congrArg₂ (fun a b : EReal => a * b) (W9_v25_apply m ρ c _) ?_
  exact congrArg (m ((c : Thread nD τ).loc main_arg2) : Vec Ideal S_ .f32) (z0_eq _)

/-- The matmul's array is the scaled product of the codes of x and the weight codes. -/
theorem prodY_eq (c : Dev nD) : prodY (V11 m ρ) c = yMat m ρ c := by
  unfold prodY
  rw [show V11 m ρ c main_v31 = _ from (W11_of m ρ c main_v31 (by decide)).trans (W10_v31 m ρ c), show V11 m ρ c main_arg1 = _ from W11_args m ρ c main_arg1 (by decide)]
  exact congrArg (fun s : EReal => product (codesOf (xMat m c) (xMax m ρ c)) (wMat m c) s) (W11_v33 m ρ c)

/-- The product. -/
theorem W12_v34_0 (c : Dev nD) : W12 m ρ c (Proc.devRef .tc main_v34_0) = yMat m ρ c :=
  (W12_arr m ρ c 3).trans ((final2_3 (V11 m ρ) c).trans (prodY_eq m ρ c))

/-- The kernel's maximum of the product bounds zero and every element's absolute value. -/
theorem yMax_le (c : Dev nD) (b : EReal) : yMax m ρ c ≤ b ↔ 0 ≤ b ∧ ∀ i : S9216x6144.Idx, eabs (yMat m ρ c i) ≤ b := by
  refine (amaxOf_le _ z0 b).trans ?_
  rw [show W12 m ρ c (Proc.devRef .tc main_v34_1) = part2 (V11 m ρ) c from W12_arr m ρ c 4]
  refine (final2_le (V11 m ρ) c b).trans ?_
  rw [prodY_eq]

/-- The kernel's maximum of y is at least zero. -/
theorem yMax_nonneg (c : Dev nD) : 0 ≤ yMax m ρ c := ((yMax_le m ρ c _).mp le_rfl).1

/-- The product is still there when the quantiser of y starts. -/
theorem W19_v34_0 (c : Dev nD) : W19 m ρ c (Proc.devRef .tc main_v34_0) = yMat m ρ c := by
  rw [W19_of m ρ c main_v34_0 (by decide), W18_of m ρ c main_v34_0 (by decide), W17_of m ρ c main_v34_0 (by decide), W16_of m ρ c main_v34_0 (by decide), W15_of m ρ c main_v34_0 (by decide), W14_of m ρ c main_v34_0 (by decide), W13_of m ρ c main_v34_0 (by decide),
    W12_v34_0]

/-- The codes of the product. -/
theorem W20_v64 (c : Dev nD) : W20 m ρ c (Proc.devRef .tc main_v64) = codesOf (yMat m ρ c) (yMax m ρ c) := by
  refine (W20_arr m ρ c 2).trans ((final3 (V19 m ρ) c).trans ?_)
  unfold codesY
  rw [show V19 m ρ c main_v34_0 = _ from W19_v34_0 m ρ c, show V19 m ρ c main_v63 = _ from W19_v63 m ρ c]
  funext i
  refine congrArg (fun s : EReal => quant (F := Ideal) (yMat m ρ c i) s) ?_
  refine (inv_apply (amaxOf (F := Ideal) (W12 m ρ c (Proc.devRef .tc main_v34_1))) _ ?_).trans ?_
  · rw [z0_eq (Shape.reshapeEquiv _ _)]; exact yMax_nonneg m ρ c
  · rw [z0_eq (Shape.reshapeEquiv _ _)]

/-! ## The five results -/

/-- The codes of y, in the output's shape. -/
theorem W21_v65 (c : Dev nD) : W21 m ρ c (Proc.devRef .tc main_v65)
    = shapeCast S6x1536x6144 (codesOf (yMat m ρ c) (yMax m ρ c)) shapeCasts_S9216x6144_S6x1536x6144 := by
  rw [show W21 m ρ c (Proc.devRef .tc main_v65) = _ from hostOps4_v65 _, W20_v64]

/-- The codes of x, in the input's shape. -/
theorem W21_v66 (c : Dev nD) : W21 m ρ c (Proc.devRef .tc main_v66)
    = shapeCast S6x1536x16384 (codesOf (xMat m c) (xMax m ρ c)) shapeCasts_S9216x16384_S6x1536x16384 := by
  rw [show W21 m ρ c (Proc.devRef .tc main_v66) = _ from hostOps4_v66 _, W20_of m ρ c main_v31 (by decide),
    W19_of m ρ c main_v31 (by decide), W18_of m ρ c main_v31 (by decide), W17_of m ρ c main_v31 (by decide), W16_of m ρ c main_v31 (by decide), W15_of m ρ c main_v31 (by decide), W14_of m ρ c main_v31 (by decide), W13_of m ρ c main_v31 (by decide),
    W12_of m ρ c main_v31 (by decide), W11_of m ρ c main_v31 (by decide), W10_v31]

/-- The scale of x. -/
theorem W21_v25 (c : Dev nD) : (W21 m ρ c (Proc.devRef .tc main_v25) : Vec Ideal S_ .f32) = fun _ => pow2 (scaleExp (xMax m ρ c)) := by
  rw [W21_of m ρ c main_v25 (by decide), W20_of m ρ c main_v25 (by decide),
    W19_of m ρ c main_v25 (by decide), W18_of m ρ c main_v25 (by decide), W17_of m ρ c main_v25 (by decide), W16_of m ρ c main_v25 (by decide), W15_of m ρ c main_v25 (by decide), W14_of m ρ c main_v25 (by decide), W13_of m ρ c main_v25 (by decide),
    W12_of m ρ c main_v25 (by decide), W11_of m ρ c main_v25 (by decide), W10_v25]
  exact funext fun i => W9_v25_apply m ρ c i

/-- The scale of y. -/
theorem W21_v58 (c : Dev nD) : (W21 m ρ c (Proc.devRef .tc main_v58) : Vec Ideal S_ .f32) = fun _ => pow2 (scaleExp (yMax m ρ c)) := by
  rw [W21_of m ρ c main_v58 (by decide), W20_of m ρ c main_v58 (by decide), W19_v58]
  funext i
  rw [z0_eq i]
  exact scale_apply (amaxOf (F := Ideal) (W12 m ρ c (Proc.devRef .tc main_v34_1))) z0 (yMax_nonneg m ρ c)

/-- The maximum of y. -/
theorem W21_v35 (c : Dev nD) : (W21 m ρ c (Proc.devRef .tc main_v35) : Vec Ideal S_ .f32) = fun _ => yMax m ρ c := by
  rw [W21_of m ρ c main_v35 (by decide), W20_of m ρ c main_v35 (by decide), W19_v35]
  funext i
  rw [z0_eq i]

end Cert.KernelIdeal.Gen
-- ==== Proof.RefRegion.lean ====
module

public import proofs.«01_k».proof.Proof.Gen.ReferenceIdeal.Frame
public import proofs.«01_k».proof.Proof.Gen.ReferenceIdeal.Run
public import Idealize.ShloMosaic.Lib.Pipeline.Value

@[expose] public section

set_option maxRecDepth 16384

noncomputable section

namespace Cert.ReferenceIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The start of a whole matrix is zero on both axes. -/
theorem hz2 : (![0, 0] : Fin 2 → Nat) = fun _ => 0 := funext fun a => by fin_cases a <;> rfl

/-- The matrix x, as the reference's kernel reads it. -/
abbrev inX (c : Dev nD) : Vec F S9216x16384 .bf16 := V m c main_v0
/-- The weights, as the reference's kernel reads them. -/
abbrev inW (c : Dev nD) : Vec F S16384x6144 .fp8e4m3 := V m c main_arg1
/-- The weights' scale, as the reference's kernel reads it. -/
abbrev inS (c : Dev nD) : Vec F S1x1 .f32 := V m c main_v1

/-- The reference's region reads the whole of x. -/
theorem iblk_x (c : Dev nD) (t : Fin cfg0.N) : (iblk m c 0 t : Vec F S9216x16384 .bf16) = inX m c := by
  obtain rfl : t = ⟨0, by decide⟩ := Fin.ext (by have := t.isLt; have : cfg0.N = 1 := N_0; show t.val = 0; omega)
  funext i
  refine congrArg (V m c main_v0) ?_
  funext a; apply Fin.ext
  match a with
  | ⟨0, _⟩ => show 0 * 9216 + 1 * (i 0).val = (i 0).val; omega
  | ⟨1, _⟩ => show 0 * 16384 + 1 * (i 1).val = (i 1).val; omega

/-- The reference's region reads the whole of the weight codes. -/
theorem iblk_w (c : Dev nD) (t : Fin cfg0.N) : (iblk m c 1 t : Vec F S16384x6144 .fp8e4m3) = inW m c := by
  obtain rfl : t = ⟨0, by decide⟩ := Fin.ext (by have := t.isLt; have : cfg0.N = 1 := N_0; show t.val = 0; omega)
  funext i
  refine congrArg (V m c main_arg1) ?_
  funext a; apply Fin.ext
  match a with
  | ⟨0, _⟩ => show 0 * 16384 + 1 * (i 0).val = (i 0).val; omega
  | ⟨1, _⟩ => show 0 * 6144 + 1 * (i 1).val = (i 1).val; omega

/-- The reference's region reads the weight scale. -/
theorem iblk_s (c : Dev nD) (t : Fin cfg0.N) : (iblk m c 2 t : Vec F S1x1 .f32) = inS m c := by
  obtain rfl : t = ⟨0, by decide⟩ := Fin.ext (by have := t.isLt; have : cfg0.N = 1 := N_0; show t.val = 0; omega)
  funext i
  refine congrArg (V m c main_v1) ?_
  funext a; apply Fin.ext
  match a with
  | ⟨0, _⟩ => show 0 * 1 + 1 * (i 0).val = (i 0).val; omega
  | ⟨1, _⟩ => show 0 * 1 + 1 * (i 1).val = (i 1).val; omega

/-- Loading all of x gives x. -/
theorem ld_x (x : Vec F S9216x16384 .bf16) : View.ld x r0_0 = x := View.ld_unit_zero hz2 _ _
/-- Loading all of the weight codes gives them. -/
theorem ld_w (x : Vec F S16384x6144 .fp8e4m3) : View.ld x r0_1 = x := View.ld_unit_zero hz2 _ _
/-- Loading all of the weight scale gives it. -/
theorem ld_s (x : Vec F S1x1 .f32) : View.ld x r0_2 = x := View.ld_unit_zero hz2 _ _

/-- The scale of x. -/
abbrev xScale (c : Dev nD) : Vec F S1x1 .f32 := k0_pay4 (inX m c)
/-- The codes of x. -/
abbrev xCodes (c : Dev nD) : Vec F S9216x16384 .fp8e4m3 := k0_pay5 (inX m c)
/-- The largest absolute value of the product. -/
abbrev yMax (c : Dev nD) : Vec F S1x1 .f32 := k0_pay7 (xScale m c) (xCodes m c) (inW m c) (inS m c)
/-- The scale of the product. -/
abbrev yScale (c : Dev nD) : Vec F S1x1 .f32 := k0_pay9 (xScale m c) (xCodes m c) (inW m c) (inS m c)
/-- The codes of the product. -/
abbrev yCodes (c : Dev nD) : Vec F S9216x6144 .fp8e4m3 :=
  k0_pay1 (Scalar.ofBits .f32 0x43E00000#32) (k0_pay10 (xScale m c) (xCodes m c) (inW m c) (inS m c))

/-- At its one point the region computes the codes of y. -/
theorem after3_eq (c : Dev nD) (t : Fin cfg0.N) : (dats m 0 c).after 3 t = yCodes m c := by
  rw [after0_3, iblk_x, iblk_w, iblk_s]
  unfold out0_3 k0_pay12 k0_pay11
  rw [ld_x, ld_w, ld_s]
  exact View.canon_unit_zero hz2 _ _

/-- The one block of the codes of y is the whole array. -/
theorem read3 (t : Fin cfg0.N) (P : Vec F S9216x6144 .fp8e4m3) :
    (cfg0.win 3).cut (grid0.coords t) P = ((cfg0.win 3).blk t).view.read (Elt F) P := by
  obtain rfl : t = ⟨0, by decide⟩ := Fin.ext (by have := t.isLt; have : cfg0.N = 1 := N_0; show t.val = 0; omega)
  funext i
  refine congrArg P ?_
  funext a; apply Fin.ext
  match a with
  | ⟨0, _⟩ => show (i 0).val = 0 * 9216 + 1 * (i 0).val; omega
  | ⟨1, _⟩ => show (i 1).val = 0 * 6144 + 1 * (i 1).val; omega

/-- The one block covers the array of the codes of y. -/
theorem cover3 (i : S9216x6144.Idx) : ∃ t : Fin cfg0.N, (cfg0.win 3).flush t = true ∧ i ∈ ((cfg0.win 3).blk t).view.set := by
  have h0 : (i 0 : Nat) < 9216 := (i 0).isLt
  have h1 : (i 1 : Nat) < 6144 := (i 1).isLt
  let t : Fin cfg0.N := ⟨0, by decide⟩
  refine ⟨t, flush0_3 _, ?_⟩
  show i ∈ ((View.whole main_v2_0).slice (win0_3.rect t)).set
  rw [View.set_slice_whole, Rect.mem_set_unit]
  intro a
  match a with
  | ⟨0, _⟩ => show 0 * 9216 ≤ (i 0 : Nat) ∧ (i 0 : Nat) < 0 * 9216 + 9216; omega
  | ⟨1, _⟩ => show 0 * 6144 ≤ (i 1 : Nat) ∧ (i 1 : Nat) < 0 * 6144 + 6144; omega

/-- The region leaves the codes of y in its array. -/
theorem final3 (c : Dev nD) : (dats m 0 c).arrAt 3 cfg0.N = yCodes m c :=
  (dats m 0 c).arrAt_eq_of_cover 3 (yCodes m c)
    (fun t _ => (congrArg ((cfg0.win 3).cut (grid0.coords t)) (after3_eq m c t)).trans (read3 t (yCodes m c))) cover3

/-- At its one point the region computes the scale of y. -/
theorem after4_eq (c : Dev nD) (t : Fin cfg0.N) : (dats m 0 c).after 4 t = yScale m c := by
  rw [after0_4, iblk_x, iblk_w, iblk_s]
  unfold out0_4 k0_pay12 k0_pay11
  rw [ld_x, ld_w, ld_s]
  exact View.canon_unit_zero hz2 _ _

/-- The one block of the scale of y is the whole array. -/
theorem read4 (t : Fin cfg0.N) (P : Vec F S1x1 .f32) :
    (cfg0.win 4).cut (grid0.coords t) P = ((cfg0.win 4).blk t).view.read (Elt F) P := by
  obtain rfl : t = ⟨0, by decide⟩ := Fin.ext (by have := t.isLt; have : cfg0.N = 1 := N_0; show t.val = 0; omega)
  funext i
  refine congrArg P ?_
  funext a; apply Fin.ext
  match a with
  | ⟨0, _⟩ => show (i 0).val = 0 * 1 + 1 * (i 0).val; omega
  | ⟨1, _⟩ => show (i 1).val = 0 * 1 + 1 * (i 1).val; omega

/-- The one block covers the array of the scale of y. -/
theorem cover4 (i : S1x1.Idx) : ∃ t : Fin cfg0.N, (cfg0.win 4).flush t = true ∧ i ∈ ((cfg0.win 4).blk t).view.set := by
  have h0 : (i 0 : Nat) < 1 := (i 0).isLt
  have h1 : (i 1 : Nat) < 1 := (i 1).isLt
  let t : Fin cfg0.N := ⟨0, by decide⟩
  refine ⟨t, flush0_4 _, ?_⟩
  show i ∈ ((View.whole main_v2_1).slice (win0_4.rect t)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 1 ≤ (i 1 : Nat) ∧ (i 1 : Nat) < 0 * 1 + 1; omega

/-- The region leaves the scale of y in its array. -/
theorem final4 (c : Dev nD) : (dats m 0 c).arrAt 4 cfg0.N = yScale m c :=
  (dats m 0 c).arrAt_eq_of_cover 4 (yScale m c)
    (fun t _ => (congrArg ((cfg0.win 4).cut (grid0.coords t)) (after4_eq m c t)).trans (read4 t (yScale m c))) cover4

/-- At its one point the region computes the maximum of y. -/
theorem after5_eq (c : Dev nD) (t : Fin cfg0.N) : (dats m 0 c).after 5 t = yMax m c := by
  rw [after0_5, iblk_x, iblk_w, iblk_s]
  unfold out0_5 k0_pay12 k0_pay11
  rw [ld_x, ld_w, ld_s]
  exact View.canon_unit_zero hz2 _ _

/-- The one block of the maximum of y is the whole array. -/
theorem read5 (t : Fin cfg0.N) (P : Vec F S1x1 .f32) :
    (cfg0.win 5).cut (grid0.coords t) P = ((cfg0.win 5).blk t).view.read (Elt F) P := by
  obtain rfl : t = ⟨0, by decide⟩ := Fin.ext (by have := t.isLt; have : cfg0.N = 1 := N_0; show t.val = 0; omega)
  funext i
  refine congrArg P ?_
  funext a; apply Fin.ext
  match a with
  | ⟨0, _⟩ => show (i 0).val = 0 * 1 + 1 * (i 0).val; omega
  | ⟨1, _⟩ => show (i 1).val = 0 * 1 + 1 * (i 1).val; omega

/-- The one block covers the array of the maximum of y. -/
theorem cover5 (i : S1x1.Idx) : ∃ t : Fin cfg0.N, (cfg0.win 5).flush t = true ∧ i ∈ ((cfg0.win 5).blk t).view.set := by
  have h0 : (i 0 : Nat) < 1 := (i 0).isLt
  have h1 : (i 1 : Nat) < 1 := (i 1).isLt
  let t : Fin cfg0.N := ⟨0, by decide⟩
  refine ⟨t, flush0_5 _, ?_⟩
  show i ∈ ((View.whole main_v2_2).slice (win0_5.rect t)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 1 ≤ (i 1 : Nat) ∧ (i 1 : Nat) < 0 * 1 + 1; omega

/-- The region leaves the maximum of y in its array. -/
theorem final5 (c : Dev nD) : (dats m 0 c).arrAt 5 cfg0.N = yMax m c :=
  (dats m 0 c).arrAt_eq_of_cover 5 (yMax m c)
    (fun t _ => (congrArg ((cfg0.win 5).cut (grid0.coords t)) (after5_eq m c t)).trans (read5 t (yMax m c))) cover5

/-- At its one point the region computes the codes of x. -/
theorem after6_eq (c : Dev nD) (t : Fin cfg0.N) : (dats m 0 c).after 6 t = xCodes m c := by
  rw [after0_6, iblk_x, iblk_w, iblk_s]
  unfold out0_6 k0_pay12
  rw [ld_x]
  exact View.canon_unit_zero hz2 _ _

/-- The one block of the codes of x is the whole array. -/
theorem read6 (t : Fin cfg0.N) (P : Vec F S9216x16384 .fp8e4m3) :
    (cfg0.win 6).cut (grid0.coords t) P = ((cfg0.win 6).blk t).view.read (Elt F) P := by
  obtain rfl : t = ⟨0, by decide⟩ := Fin.ext (by have := t.isLt; have : cfg0.N = 1 := N_0; show t.val = 0; omega)
  funext i
  refine congrArg P ?_
  funext a; apply Fin.ext
  match a with
  | ⟨0, _⟩ => show (i 0).val = 0 * 9216 + 1 * (i 0).val; omega
  | ⟨1, _⟩ => show (i 1).val = 0 * 16384 + 1 * (i 1).val; omega

/-- The one block covers the array of the codes of x. -/
theorem cover6 (i : S9216x16384.Idx) : ∃ t : Fin cfg0.N, (cfg0.win 6).flush t = true ∧ i ∈ ((cfg0.win 6).blk t).view.set := by
  have h0 : (i 0 : Nat) < 9216 := (i 0).isLt
  have h1 : (i 1 : Nat) < 16384 := (i 1).isLt
  let t : Fin cfg0.N := ⟨0, by decide⟩
  refine ⟨t, flush0_6 _, ?_⟩
  show i ∈ ((View.whole main_v2_3).slice (win0_6.rect t)).set
  rw [View.set_slice_whole, Rect.mem_set_unit]
  intro a
  match a with
  | ⟨0, _⟩ => show 0 * 9216 ≤ (i 0 : Nat) ∧ (i 0 : Nat) < 0 * 9216 + 9216; omega
  | ⟨1, _⟩ => show 0 * 16384 ≤ (i 1 : Nat) ∧ (i 1 : Nat) < 0 * 16384 + 16384; omega

/-- The region leaves the codes of x in its array. -/
theorem final6 (c : Dev nD) : (dats m 0 c).arrAt 6 cfg0.N = xCodes m c :=
  (dats m 0 c).arrAt_eq_of_cover 6 (xCodes m c)
    (fun t _ => (congrArg ((cfg0.win 6).cut (grid0.coords t)) (after6_eq m c t)).trans (read6 t (xCodes m c))) cover6

/-- At its one point the region computes the scale of x. -/
theorem after7_eq (c : Dev nD) (t : Fin cfg0.N) : (dats m 0 c).after 7 t = xScale m c := by
  rw [after0_7, iblk_x, iblk_w, iblk_s]
  unfold out0_7 k0_pay11
  rw [ld_x]
  exact View.canon_unit_zero hz2 _ _

/-- The one block of the scale of x is the whole array. -/
theorem read7 (t : Fin cfg0.N) (P : Vec F S1x1 .f32) :
    (cfg0.win 7).cut (grid0.coords t) P = ((cfg0.win 7).blk t).view.read (Elt F) P := by
  obtain rfl : t = ⟨0, by decide⟩ := Fin.ext (by have := t.isLt; have : cfg0.N = 1 := N_0; show t.val = 0; omega)
  funext i
  refine congrArg P ?_
  funext a; apply Fin.ext
  match a with
  | ⟨0, _⟩ => show (i 0).val = 0 * 1 + 1 * (i 0).val; omega
  | ⟨1, _⟩ => show (i 1).val = 0 * 1 + 1 * (i 1).val; omega

/-- The one block covers the array of the scale of x. -/
theorem cover7 (i : S1x1.Idx) : ∃ t : Fin cfg0.N, (cfg0.win 7).flush t = true ∧ i ∈ ((cfg0.win 7).blk t).view.set := by
  have h0 : (i 0 : Nat) < 1 := (i 0).isLt
  have h1 : (i 1 : Nat) < 1 := (i 1).isLt
  let t : Fin cfg0.N := ⟨0, by decide⟩
  refine ⟨t, flush0_7 _, ?_⟩
  show i ∈ ((View.whole main_v2_4).slice (win0_7.rect t)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 1 ≤ (i 1 : Nat) ∧ (i 1 : Nat) < 0 * 1 + 1; omega

/-- The region leaves the scale of x in its array. -/
theorem final7 (c : Dev nD) : (dats m 0 c).arrAt 7 cfg0.N = xScale m c :=
  (dats m 0 c).arrAt_eq_of_cover 7 (xScale m c)
    (fun t _ => (congrArg ((cfg0.win 7).cut (grid0.coords t)) (after7_eq m c t)).trans (read7 t (xScale m c))) cover7

end Cert.ReferenceIdeal.Gen
-- ==== Proof.ScaleRef.lean ====
module

public import proofs.«01_k».proof.Proof.Scale
public import proofs.«01_k».proof.Proof.Maxes
public import proofs.«01_k».proof.Proof.Gen.ReferenceIdeal.Skeleton
public import Idealize.ShloMosaic.Lib.ValueIdx
public import Mathlib.Analysis.SpecialFunctions.Pow.Real

@[expose] public section

noncomputable section

namespace Cert.ReferenceIdeal.Gen

open Idealize.ShloMosaic Idealize.ShloMosaic.ValueIdx Cert.Math

variable {F : FTy → Type} [FloatOps F]

/-- The reference's exponent of a maximum: the floor of the base-2 logarithm of its 448th part, plus one, clamped to ±126;
    zero for a zero maximum or an infinite one. -/
def refExp (a : FVec F S1x1 .f32) : FVec F S1x1 .f32 :=
  select (ori (cmpf .oeq a (broadcast S1x1 (Scalar.ofBits .f32 0x00000000#32)))
      (xori (cmpf .olt (mulf a (broadcast S1x1 (Scalar.ofBits .f32 0x3B124925#32))) (broadcast S1x1 (Scalar.ofBits .f32 0x7F800000#32))) (constantI S1x1 1 1#1)))
    (broadcast S1x1 (Scalar.ofBits .f32 0x00000000#32))
    (minimumf (broadcast S1x1 (Scalar.sitofp .f32 126#32)) (maximumf (broadcast S1x1 (Scalar.sitofp .f32 4294967170#32))
      (addf (floor (divf (log (mulf a (broadcast S1x1 (Scalar.ofBits .f32 0x3B124925#32)))) (log (broadcast S1x1 (Scalar.ofBits .f32 0x40000000#32)))))
        (broadcast S1x1 (Scalar.ofBits .f32 0x3F800000#32)))))

/-- The maximum absolute value of x as the reference takes it. -/
def refMaxX (x : Vec F S9216x16384 .bf16) : FVec F S1x1 .f32 :=
  broadcast S1x1 (extractAt ![0, 0, 0] (shapeCast S1x1x1 (multiReduction .maximumf [1, 2] S1 (shapeCast S1x9216x16384 (absf (k0_pay2 x)) shapeCasts_S9216x16384_S1x9216x16384) 0xFF800000#32 reduces_S1x9216x16384_S1 (.inl rfl) rfl) shapeCasts_S1_S1x1x1) inpos_S1x1x1_p0_0_0)

/-- The exponent of the reference's scale of x, from its maximum. -/
theorem k0_pay3_eq (x : Vec F S9216x16384 .bf16) : k0_pay3 x = refExp (refMaxX x) := rfl

/-- The exponent of the reference's scale of y, from its maximum. -/
theorem k0_pay8_eq (v32 : FVec F S1x1 .f32) (v42 : FVec F S9216x16384 .fp8e4m3) (v43 : Vec F S16384x6144 .fp8e4m3) (v45 : Vec F S1x1 .f32) :
    k0_pay8 v32 v42 v43 v45 = refExp (k0_pay7 v32 v42 v43 v45) := rfl

/-- The word of 1 reads as 1. -/
theorem ofBits_one : (Ideal.ofBits .f32 0x3F800000#32 : EReal) = ((1 : ℝ) : EReal) := by
  simp [Ideal.ofBits, Ideal.ieee, -EReal.coe_mul]; norm_num

/-- The quotient of the logarithms of a positive number and of two, its floor plus one, clamped. -/
theorem refExp_real (v : ℝ) (hv : 0 < v) :
    min (((126 : ℝ) : EReal)) (max ((-126 : ℝ) : EReal)
      (Ideal.liftRound Int.floor (Ideal.div (Ideal.log (v : EReal)) (Ideal.log ((2 : ℝ) : EReal))) + ((1 : ℝ) : EReal)))
      = (((max (-126) (min 126 (⌊Real.log v / Real.log 2⌋ + 1)) : ℤ) : ℝ) : EReal) := by
  have hl : Real.log 2 ≠ 0 := (Real.log_pos (by norm_num)).ne'
  rw [Ideal.log_coe, Ideal.log_coe, if_neg (not_le.mpr hv), if_neg (by norm_num)]
  have hd : Ideal.div (Real.log v : EReal) (Real.log 2 : EReal) = ((Real.log v / Real.log 2 : ℝ) : EReal) := by
    unfold Ideal.div
    rw [if_neg (by simpa using hl), ← EReal.coe_inv, ← EReal.coe_mul, div_eq_mul_inv]
  rw [hd]
  show min _ (max _ (((⌊Real.log v / Real.log 2⌋ : ℝ) : EReal) + _)) = _
  generalize ⌊Real.log v / Real.log 2⌋ = L
  have hmax : ∀ p q : ℝ, max (p : EReal) (q : EReal) = ((max p q : ℝ) : EReal) := fun p q => (EReal.coe_strictMono.monotone.map_max).symm
  have hmin : ∀ p q : ℝ, min (p : EReal) (q : EReal) = ((min p q : ℝ) : EReal) := fun p q => (EReal.coe_strictMono.monotone.map_min).symm
  rw [← EReal.coe_add, hmax, hmin]
  refine congrArg (fun r : ℝ => (r : EReal)) ?_
  rw [show max (-126) (min 126 (L + 1)) = min 126 (max (-126) (L + 1)) by omega]
  push_cast
  rfl

/-- The reference's exponent of a nonnegative maximum is the scale's exponent. -/
theorem refExp_apply (a : FVec Ideal S1x1 .f32) (i : S1x1.Idx) (h0 : (0 : EReal) ≤ a i) :
    (refExp (F := Ideal) a i : EReal) = ((scaleExp (a i) : ℝ) : EReal) := by
  unfold refExp
  show Scalar.select (BitVec.ofBool (decide ((a i : EReal) = Ideal.ofBits .f32 0x00000000#32))
      ||| (BitVec.ofBool (decide ((a i : EReal) * Ideal.ofBits .f32 0x3B124925#32 < Ideal.ofBits .f32 0x7F800000#32)) ^^^ 1#1))
    (Ideal.ofBits .f32 0x00000000#32)
    (min ((((126#32 : BitVec 32).toInt : ℝ)) : EReal) (max ((((4294967170#32 : BitVec 32).toInt : ℝ)) : EReal)
      (Ideal.liftRound Int.floor (Ideal.div (Ideal.log ((a i : EReal) * Ideal.ofBits .f32 0x3B124925#32)) (Ideal.log (Ideal.ofBits .f32 0x40000000#32)))
        + Ideal.ofBits .f32 0x3F800000#32))) = _
  rw [Ideal.ofBits_zero_f32, ofBits_inv448, ofBits_inf, ofBits_two, ofBits_one]
  rw [show (126#32 : BitVec 32).toInt = 126 from rfl, show (4294967170#32 : BitVec 32).toInt = -126 from rfl]
  unfold scaleExp
  by_cases ha : (a i : EReal) = 0
  · rw [if_pos (Or.inl ha), decide_eq_true ha]
    rw [show Scalar.select _ _ _ = _ from if_pos (by cases decide ((a i : EReal) * (inv448 : EReal) < ⊤) <;> rfl)]
    simp
  by_cases ht : (a i : EReal) * (inv448 : EReal) < ⊤
  · rw [if_neg (by simp [ha, ht]), decide_eq_false ha, decide_eq_true ht]
    obtain ⟨v, hv0, e⟩ := over_real (a i) h0 ha ht
    rw [show Scalar.select _ _ _ = _ from if_neg (by decide)]
    rw [e, EReal.toReal_coe, ← refExp_real v hv0]
    push_cast
    rfl
  · rw [if_pos (Or.inr ht), decide_eq_false ht]
    rw [show Scalar.select _ _ _ = _ from if_pos (by cases decide ((a i : EReal) = 0) <;> rfl)]
    simp

/-- Two to an integer exponent. -/
theorem exp2_int (e : ℤ) : (Ideal.exp2 ((e : ℝ) : EReal) : EReal) = pow2 e := by
  rw [Ideal.exp2_coe]
  unfold pow2
  exact congrArg (fun r : ℝ => (r : EReal)) (Real.rpow_intCast 2 e)

/-- The reference's scale of a nonnegative maximum. -/
theorem refScale_apply (a : FVec Ideal S1x1 .f32) (i : S1x1.Idx) (h0 : (0 : EReal) ≤ a i) :
    (exp2 (refExp (F := Ideal) a) i : EReal) = pow2 (scaleExp (a i)) := by
  show (Ideal.exp2 (refExp (F := Ideal) a i) : EReal) = _
  rw [refExp_apply a i h0, exp2_int]

/-- The reference's inverse scale of a nonnegative maximum. -/
theorem refInv_apply (a : FVec Ideal S1x1 .f32) (i : S1x1.Idx) (h0 : (0 : EReal) ≤ a i) :
    (exp2 (subf (broadcast S1x1 (Scalar.ofBits .f32 0x00000000#32)) (refExp (F := Ideal) a)) i : EReal) = pow2 (-scaleExp (a i)) := by
  show (Ideal.exp2 ((Ideal.ofBits .f32 0x00000000#32 : EReal) - (refExp (F := Ideal) a i : EReal)) : EReal) = _
  rw [refExp_apply a i h0, Ideal.ofBits_zero_f32, zero_sub, ← EReal.coe_neg, ← Int.cast_neg, exp2_int]

end Cert.ReferenceIdeal.Gen
-- ==== Proof.RefValues.lean ====
module

public import proofs.«01_k».proof.Proof.RefRegion
public import proofs.«01_k».proof.Proof.ScaleRef
public import proofs.«01_k».proof.Proof.Amax

@[expose] public section

set_option maxRecDepth 16384

noncomputable section

namespace Cert.Maxes

open Idealize.ShloMosaic

/-- Every element of a reshaped array has a property exactly when every element of the array does. -/
theorem forall_shapeCast {α : Type} {s t : Shape} (x : s.Idx → α) (h : s.ShapeCasts t) (P : α → Prop) :
    (∀ i, P (shapeCast t x h i)) ↔ ∀ j, P (x j) :=
  ⟨fun H j => by
    have := H ((Shape.reshapeEquiv h).symm j)
    unfold shapeCast at this
    rwa [Equiv.apply_symm_apply] at this, fun H i => H _⟩

end Cert.Maxes

namespace Cert.ReferenceIdeal.Gen

open Idealize.ShloMosaic Idealize.ShloMosaic.TcCoe Idealize.SL.Sem Idealize.ShloMosaic.ValueIdx Cert.Math
open Cert.KernelIdeal.Gen (quant eabs z1_eq)

/-- The one index of a 1x1 array. -/
abbrev z11 : S1x1.Idx := fun a => ⟨0, by fin_cases a <;> decide⟩
/-- Every index of a 1x1 array is that one. -/
theorem z11_eq (i : S1x1.Idx) : i = z11 := by
  funext a; apply Fin.ext; have := (i a).isLt; fin_cases a <;> (simp at this ⊢; omega)

/-- Bounds of a one-element array are bounds of the scalar read from it. -/
theorem extract_le (R : FVec Ideal S1 .f32) (Q : EReal → Prop) (h : ∀ j b, (R j : EReal) ≤ b ↔ Q b) (i : S1x1.Idx) (b : EReal) :
    (broadcast S1x1 (extractAt ![0, 0, 0] (shapeCast S1x1x1 R shapeCasts_S1_S1x1x1) inpos_S1x1x1_p0_0_0) i : EReal) ≤ b ↔ Q b := h _ b

/-- The reference's maximum of x bounds exactly the absolute values of x. -/
theorem refMaxX_le (x : Vec Ideal S9216x16384 .bf16) (i : S1x1.Idx) (b : EReal) :
    (refMaxX (F := Ideal) x i : EReal) ≤ b ↔ ∀ j : S9216x16384.Idx, eabs (x j) ≤ b := by
  unfold refMaxX
  refine extract_le _ (fun b => ∀ j : S9216x16384.Idx, eabs (x j) ≤ b) (fun j b => ?_) i b
  refine (Cert.Maxes.multiReduction_le _ _ (.inl rfl) rfl _ b).trans ?_
  refine Iff.trans ⟨fun H j => H j ((z1_eq _).trans (z1_eq _).symm), fun H j _ => H j⟩ ?_
  refine (Cert.Maxes.forall_shapeCast _ _ (fun a : EReal => a ≤ b)).trans ?_
  unfold k0_pay2
  rw [shapeCast_self]
  exact Iff.rfl

/-- The reference's maximum of the product bounds exactly the absolute values of the product. -/
theorem k0_pay7_le (v32 : FVec Ideal S1x1 .f32) (v42 : FVec Ideal S9216x16384 .fp8e4m3) (v43 : Vec Ideal S16384x6144 .fp8e4m3) (v45 : Vec Ideal S1x1 .f32)
    (i : S1x1.Idx) (b : EReal) :
    (k0_pay7 (F := Ideal) v32 v42 v43 v45 i : EReal) ≤ b ↔ ∀ j : S9216x6144.Idx, eabs (k0_pay6 (F := Ideal) v32 v42 v43 v45 j) ≤ b := by
  unfold k0_pay7
  refine extract_le _ (fun b => ∀ j : S9216x6144.Idx, eabs (k0_pay6 (F := Ideal) v32 v42 v43 v45 j) ≤ b) (fun j b => ?_) i b
  refine (Cert.Maxes.multiReduction_le _ _ (.inl rfl) rfl _ b).trans ?_
  refine Iff.trans ⟨fun H j => H j ((z1_eq _).trans (z1_eq _).symm), fun H j _ => H j⟩ ?_
  exact (Cert.Maxes.forall_shapeCast _ _ (fun a : EReal => a ≤ b)).trans Iff.rfl

/-- The reference's maximum of x is at least zero. -/
theorem refMaxX_nonneg (x : Vec Ideal S9216x16384 .bf16) (i : S1x1.Idx) : (0 : EReal) ≤ refMaxX (F := Ideal) x i :=
  (Cert.Maxes.absf_nonneg _).trans ((refMaxX_le x i _).mp le_rfl (ix2 (0 : Fin 9216) (0 : Fin 16384)))

/-- The reference's maximum of y is at least zero. -/
theorem k0_pay7_nonneg (v32 : FVec Ideal S1x1 .f32) (v42 : FVec Ideal S9216x16384 .fp8e4m3) (v43 : Vec Ideal S16384x6144 .fp8e4m3) (v45 : Vec Ideal S1x1 .f32)
    (i : S1x1.Idx) : (0 : EReal) ≤ k0_pay7 (F := Ideal) v32 v42 v43 v45 i :=
  (Cert.Maxes.absf_nonneg _).trans ((k0_pay7_le v32 v42 v43 v45 i _).mp le_rfl (ix2 (0 : Fin 9216) (0 : Fin 6144)))

/-- The reference's product contracts the columns of x with the rows of the weights. -/
theorem dot_plain : dot_S9216x16384_S16384x6144_S9216x6144_1_0_0_1_n_n = DotDims.plain 9216 16384 6144 := rfl

/-- The reference's product: the codes times the weights, summed, times both scales. -/
theorem k0_pay6_eq (v32 : FVec Ideal S1x1 .f32) (v42 : FVec Ideal S9216x16384 .fp8e4m3) (v43 : Vec Ideal S16384x6144 .fp8e4m3) (v45 : Vec Ideal S1x1 .f32) :
    k0_pay6 (F := Ideal) v32 v42 v43 v45 = Cert.Math.product v42 v43 ((v32 z11 : EReal) * (v45 z11 : EReal)) := by
  funext j
  obtain ⟨r, q, rfl⟩ : ∃ (r : Fin 9216) (q : Fin 6144), j = ix2 r q := ⟨_, _, eq_ix2 j⟩
  unfold k0_pay6 Cert.Math.product
  simp only [shapeCast_self, matmul, dot_plain]
  have e := Ideal.matmul_plain_apply (φ₁ := .fp8e4m3) (φ₂ := .fp8e4m3) none v42 v43 (constant S9216x6144 .f32 0x00000000#32) r q
  have hz : (constant (F := Ideal) S9216x6144 .f32 0x00000000#32 (ix2 r q) : EReal) = 0 := Ideal.ofBits_zero_f32
  rw [hz, zero_add] at e
  have es : (broadcastTo S9216x6144 (mulf v32 v45) broadcasts_S1x1_S9216x6144 (ix2 r q) : EReal) = (v32 z11 : EReal) * (v45 z11 : EReal) :=
    congrArg (mulf v32 v45) (z11_eq _)
  exact congrArg₂ (fun a b : EReal => a * b) e es

/-- The reference's codes of x: each element times the inverse scale, clipped to ±448, cast. -/
theorem k0_pay5_apply (x : Vec Ideal S9216x16384 .bf16) (i : S9216x16384.Idx) :
    k0_pay5 (F := Ideal) x i = quant (F := Ideal) (FloatOps.extf .f32 bitsLt_bf16_f32 (x i)) (pow2 (-scaleExp (refMaxX (F := Ideal) x z11))) := by
  unfold k0_pay5
  rw [k0_pay3_eq]
  have e := refInv_apply (refMaxX (F := Ideal) x) z11 (refMaxX_nonneg x z11)
  rw [← e]
  unfold k0_pay2 quant
  rw [shapeCast_self]
  refine congrArg (fun s : EReal => (min (Ideal.ofBits .f32 0x43E00000#32) (max (Ideal.ofBits .f32 0xC3E00000#32) ((x i : EReal) * s)) : EReal)) ?_
  exact congrArg (exp2 (subf (broadcast S1x1 (Scalar.ofBits .f32 0x00000000#32)) (refExp (F := Ideal) (refMaxX (F := Ideal) x)))) (z11_eq _)

/-- The reference's scale of x. -/
theorem k0_pay4_apply (x : Vec Ideal S9216x16384 .bf16) (i : S1x1.Idx) :
    (k0_pay4 (F := Ideal) x i : EReal) = pow2 (scaleExp (refMaxX (F := Ideal) x z11)) := by
  obtain rfl := z11_eq i
  unfold k0_pay4
  rw [k0_pay3_eq]
  exact refScale_apply (refMaxX (F := Ideal) x) z11 (refMaxX_nonneg x z11)

section Product
variable (v32 : FVec Ideal S1x1 .f32) (v42 : FVec Ideal S9216x16384 .fp8e4m3) (v43 : Vec Ideal S16384x6144 .fp8e4m3) (v45 : Vec Ideal S1x1 .f32)

/-- The reference's scale of the product. -/
theorem k0_pay9_apply (i : S1x1.Idx) :
    (k0_pay9 (F := Ideal) v32 v42 v43 v45 i : EReal) = pow2 (scaleExp (k0_pay7 (F := Ideal) v32 v42 v43 v45 z11)) := by
  obtain rfl := z11_eq i
  unfold k0_pay9
  rw [k0_pay8_eq]
  exact refScale_apply (k0_pay7 (F := Ideal) v32 v42 v43 v45) z11 (k0_pay7_nonneg v32 v42 v43 v45 z11)

/-- The reference's codes of the product. -/
theorem k0_pay1_apply (i : S9216x6144.Idx) :
    k0_pay1 (F := Ideal) (Scalar.ofBits .f32 0x43E00000#32) (k0_pay10 (F := Ideal) v32 v42 v43 v45) i
      = quant (F := Ideal) (k0_pay6 (F := Ideal) v32 v42 v43 v45 i) (pow2 (-scaleExp (k0_pay7 (F := Ideal) v32 v42 v43 v45 z11))) := by
  unfold k0_pay1 k0_pay10
  rw [k0_pay8_eq]
  have e := refInv_apply (k0_pay7 (F := Ideal) v32 v42 v43 v45) z11 (k0_pay7_nonneg v32 v42 v43 v45 z11)
  rw [← e]
  generalize k0_pay7 (F := Ideal) v32 v42 v43 v45 = A
  generalize k0_pay6 (F := Ideal) v32 v42 v43 v45 = Y
  unfold quant
  refine congrArg (fun s : EReal => (min (Ideal.ofBits .f32 0x43E00000#32) (max (Ideal.ofBits .f32 0xC3E00000#32) ((Y i : EReal) * s)) : EReal)) ?_
  exact congrArg (exp2 (subf (broadcast S1x1 (Scalar.ofBits .f32 0x00000000#32)) (refExp (F := Ideal) A))) (z11_eq _)

end Product

end Cert.ReferenceIdeal.Gen
-- ==== Proof.Pre.lean ====
module

public import proofs.«01_k».proof.Pre_max_outside_first_block
public import proofs.«01_k».proof.Proof.Maxes
public import Idealize.ShloMosaic.Lib.ValueIdx

@[expose] public section

noncomputable section

namespace Cert.Pre_max_outside_first_block

open Idealize.ShloMosaic

/-- The shape relations the precondition's function states. -/
theorem facts : Facts where
  bitsLt_bf16_f32 := by decide
  bcast_S_S6x1536x16384 := by decide
  reducesTo_S6x1536x16384_S_d0_1_2 := by decide
  h_S_ := by decide

variable [Facts]

/-- A coordinate below a bound compares below it as words. -/
theorem slt_one (n k : ℕ) (h : n < k) (hk : k < 2 ^ 31) : IntOp.cmpi .slt (BitVec.ofNat 32 n) (BitVec.ofNat 32 k) = 1#1 := by
  show BitVec.ofBool ((BitVec.ofNat 32 n).slt (BitVec.ofNat 32 k)) = 1#1
  have : (BitVec.ofNat 32 n).slt (BitVec.ofNat 32 k) = true := by
    rw [BitVec.slt_iff_toInt_lt]
    rw [BitVec.toInt_eq_toNat_of_lt (by rw [BitVec.toNat_ofNat]; omega), BitVec.toInt_eq_toNat_of_lt (by rw [BitVec.toNat_ofNat]; omega),
      BitVec.toNat_ofNat, BitVec.toNat_ofNat]
    omega
  rw [this]; rfl

/-- Where the first block is: the first of the six matrices, its first 256 rows, their first 8192 columns. -/
def mask : IVec S6x1536x16384 1 := fun i =>
  IntOp.andi (IntOp.andi (IntOp.cmpi .slt (BitVec.ofNat 32 (i 0).val) (BitVec.ofNat 32 1)) (IntOp.cmpi .slt (BitVec.ofNat 32 (i 1).val) (BitVec.ofNat 32 256)))
    (IntOp.cmpi .slt (BitVec.ofNat 32 (i 2).val) (BitVec.ofNat 32 8192))

/-- The absolute values. -/
def absX (x : FVec Ideal S6x1536x16384 .bf16) : FVec Ideal S6x1536x16384 .f32 := fun i => (max (x i : EReal) (-(x i : EReal)) : EReal)

/-- The absolute values with the first block's replaced by zero. -/
def absRest (x : FVec Ideal S6x1536x16384 .bf16) : FVec Ideal S6x1536x16384 .f32 :=
  fun i => Scalar.select (mask i) (FloatOps.ofBits .f32 0x00000000#32) (absX x i)

/-- The maximum over a whole array. -/
def mx (a : FVec Ideal S6x1536x16384 .f32) : FVec Ideal S_ .f32 :=
  Host.reduce (FloatOps.maximumf (F := Ideal) (φ := .f32)) a (constant S_ .f32 0xFF800000#32) Facts.reducesTo_S6x1536x16384_S_d0_1_2 Facts.h_S_

/-- The precondition says that the maximum of all absolute values is at most the maximum of those outside the first block. -/
theorem fn_eq (x : FVec Ideal S6x1536x16384 .bf16) (w : FVec Ideal S16384x6144 .fp8e4m3) (s : FVec Ideal S_ .f32) :
    fn (F := Ideal) x w s = cmpf .ole (mx (absX x)) (mx (absRest x)) := rfl

/-- A maximum is at most `b` exactly when every element is. -/
theorem mx_le (a : FVec Ideal S6x1536x16384 .f32) (i : S_.Idx) (b : EReal) : (mx a i : EReal) ≤ b ↔ ∀ j, (a j : EReal) ≤ b := by
  refine (Cert.Maxes.hostReduce_le _ _ _ _ Cert.Maxes.ofBits_neg_inf i b).trans ?_
  exact ⟨fun H j => H j (funext fun a => a.elim0), fun H j _ => H j⟩

/-- A comparison "at most" that holds states the order. -/
theorem le_of_cmpf (p q : FVec Ideal S_ .f32) (h : cmpf .ole p q = fun _ => 1#1) (i : S_.Idx) : (p i : EReal) ≤ (q i : EReal) := by
  have h1 : BitVec.ofBool (decide ((p i : EReal) ≤ (q i : EReal))) = 1#1 := congrFun h i
  by_contra hn
  rw [decide_eq_false hn] at h1
  exact absurd h1 (by decide)

/-- Where the precondition holds, a nonnegative bound of the absolute values outside the first block bounds them all. -/
theorem bound_of_pre (x : FVec Ideal S6x1536x16384 .bf16) (w : FVec Ideal S16384x6144 .fp8e4m3) (s : FVec Ideal S_ .f32)
    (h : fn (F := Ideal) x w s = fun _ => 1#1) (b : EReal) (h0 : 0 ≤ b)
    (H : ∀ i : S6x1536x16384.Idx, ¬((i 0).val < 1 ∧ (i 1).val < 256 ∧ (i 2).val < 8192) → max (x i : EReal) (-(x i : EReal)) ≤ b) :
    ∀ i : S6x1536x16384.Idx, max (x i : EReal) (-(x i : EReal)) ≤ b := by
  rw [fn_eq] at h
  have h2 := le_of_cmpf _ _ h (fun a => a.elim0)
  refine (mx_le (absX x) _ b).mp (h2.trans ((mx_le (absRest x) _ b).mpr fun i => ?_))
  show ((if mask i = 1 then (Ideal.ofBits .f32 0x00000000#32 : EReal) else (max (x i : EReal) (-(x i : EReal)))) : EReal) ≤ b
  split
  · rw [Ideal.ofBits_zero_f32]; exact h0
  · rename_i hm
    refine H i fun hp => hm ?_
    unfold mask
    rw [slt_one _ _ hp.1 (by norm_num), slt_one _ _ hp.2.1 (by norm_num), slt_one _ _ hp.2.2 (by norm_num)]
    rfl

end Cert.Pre_max_outside_first_block
-- ==== Proof.Algebraic.lean ====
module

public import proofs.«01_k».proof.Defs
public import proofs.«01_k».proof.Proof.Run
public import proofs.«01_k».proof.Proof.Gen.ReferenceIdeal.Run
public import proofs.«01_k».proof.Proof.KernelValues
public import proofs.«01_k».proof.Proof.RefValues
public import proofs.«01_k».proof.Proof.Pre

@[expose] public section

set_option maxRecDepth 16384

noncomputable section

/-! ## The reference's results as functions of its arguments -/

namespace Cert.ReferenceIdeal.Gen

open Idealize.ShloMosaic Idealize.ShloMosaic.TcCoe Idealize.SL.Sem Idealize.ShloMosaic.StableHlo Cert.Math
open Cert.KernelIdeal.Gen (quant eabs z0 z0_eq)

section Reads
variable {F : FTy → Type} [FloatOps F]

/-- The host's reshape of x to a matrix. -/
theorem hostOps0_v0 (V0 : Valuation τ sig (Elt F)) :
    after (List.flatten [hostOps0 (F := F)]) V0 (Proc.devRef .tc main_v0) = shapeCast S9216x16384 (V0 (Proc.devRef .tc main_arg0)) shapeCasts_S6x1536x16384_S9216x16384 := by
  simp only [hostOps0, List.flatten_cons, List.flatten_nil, List.append_nil]
  after_results <;> rfl

/-- The host's reshape of the weight scale. -/
theorem hostOps0_v1 (V0 : Valuation τ sig (Elt F)) :
    after (List.flatten [hostOps0 (F := F)]) V0 (Proc.devRef .tc main_v1) = shapeCast S1x1 (V0 (Proc.devRef .tc main_arg2)) shapeCasts_S_S1x1 := by
  simp only [hostOps0, List.flatten_cons, List.flatten_nil, List.append_nil]
  after_results <;> rfl
end Reads

variable (m : (ℓ : Loc nD τ sig) → Buf (Elt Ideal) ℓ)

/-- The reference's x as its region reads it. -/
theorem inX_eq (c : Dev nD) : inX m c = shapeCast S9216x16384 (m ((c : Thread nD τ).loc main_arg0)) shapeCasts_S6x1536x16384_S9216x16384 := hostOps0_v0 _
/-- The reference's weight scale as its region reads it. -/
theorem inS_eq (c : Dev nD) : (inS m c z11 : EReal) = (m ((c : Thread nD τ).loc main_arg2) : Vec Ideal S_ .f32) z0 := by
  rw [show inS m c = shapeCast S1x1 (m ((c : Thread nD τ).loc main_arg2)) shapeCasts_S_S1x1 from hostOps0_v1 _]
  exact congrArg (m ((c : Thread nD τ).loc main_arg2) : Vec Ideal S_ .f32) (z0_eq _)

/-- The reference's maximum of x. -/
abbrev refA (c : Dev nD) : EReal := refMaxX (F := Ideal) (inX m c) z11
/-- The reference's maximum of the product. -/
abbrev refB (c : Dev nD) : EReal := yMax m c z11
/-- The reference's product. -/
abbrev refY (c : Dev nD) : S9216x6144.Idx → EReal := productOf (inX m c) (inW m c) (inS m c z11) (refA m c)

/-- The reference's codes of x. -/
theorem xCodes_eq (c : Dev nD) : xCodes m c = codesOf (inX m c) (refA m c) := funext fun i => k0_pay5_apply (inX m c) i

/-- The reference's product. -/
theorem y_eq (c : Dev nD) : k0_pay6 (F := Ideal) (xScale m c) (xCodes m c) (inW m c) (inS m c) = refY m c := by
  rw [k0_pay6_eq, xCodes_eq]
  exact congrArg (fun s : EReal => product (codesOf (inX m c) (refA m c)) (inW m c) (s * (inS m c z11 : EReal))) (k0_pay4_apply (inX m c) z11)

/-- The reference's maximum of the product is at most `b` exactly when every absolute value of it is. -/
theorem refB_le (c : Dev nD) (b : EReal) : refB m c ≤ b ↔ ∀ j : S9216x6144.Idx, eabs (refY m c j) ≤ b := by
  refine (k0_pay7_le (xScale m c) (xCodes m c) (inW m c) (inS m c) z11 b).trans ?_
  rw [y_eq]

/-- The reference's codes of the product. -/
theorem yCodes_eq (c : Dev nD) : yCodes m c = codesOf (refY m c) (refB m c) := by
  funext i
  refine (k0_pay1_apply (xScale m c) (xCodes m c) (inW m c) (inS m c) i).trans ?_
  rw [y_eq]
  rfl

/-- A one-element matrix reshaped to a scalar is its one element. -/
theorem cast_one (P : Vec Ideal S1x1 .f32) : (shapeCast S_ P shapeCasts_S1x1_S_ : Vec Ideal S_ .f32) = fun _ => P z11 :=
  funext fun i => congrArg P (z11_eq _)

/-- The reference's codes of y, in the output's shape. -/
theorem res0 (c : Dev nD) : shapeCast S6x1536x6144 (Cert.ReferenceIdeal.Value.reg_main_v2_0 m c) shapeCasts_S9216x6144_S6x1536x6144
    = shapeCast S6x1536x6144 (codesOf (refY m c) (refB m c)) shapeCasts_S9216x6144_S6x1536x6144 := by
  rw [show Cert.ReferenceIdeal.Value.reg_main_v2_0 m c = _ from final3 m c, yCodes_eq]

/-- The reference's scale of y. -/
theorem res1 (c : Dev nD) : (shapeCast S_ (Cert.ReferenceIdeal.Value.reg_main_v2_1 m c) shapeCasts_S1x1_S_ : Vec Ideal S_ .f32) = fun _ => pow2 (scaleExp (refB m c)) := by
  rw [show Cert.ReferenceIdeal.Value.reg_main_v2_1 m c = _ from final4 m c]
  exact funext fun i => k0_pay9_apply (xScale m c) (xCodes m c) (inW m c) (inS m c) _

/-- The reference's maximum of y. -/
theorem res2 (c : Dev nD) : (shapeCast S_ (Cert.ReferenceIdeal.Value.reg_main_v2_2 m c) shapeCasts_S1x1_S_ : Vec Ideal S_ .f32) = fun _ => refB m c := by
  rw [show Cert.ReferenceIdeal.Value.reg_main_v2_2 m c = _ from final5 m c]
  exact cast_one (yMax m c)

/-- The reference's codes of x, in the input's shape. -/
theorem res3 (c : Dev nD) : shapeCast S6x1536x16384 (Cert.ReferenceIdeal.Value.reg_main_v2_3 m c) shapeCasts_S9216x16384_S6x1536x16384
    = shapeCast S6x1536x16384 (codesOf (inX m c) (refA m c)) shapeCasts_S9216x16384_S6x1536x16384 := by
  rw [show Cert.ReferenceIdeal.Value.reg_main_v2_3 m c = _ from final6 m c, xCodes_eq]

/-- The reference's scale of x. -/
theorem res4 (c : Dev nD) : (shapeCast S_ (Cert.ReferenceIdeal.Value.reg_main_v2_4 m c) shapeCasts_S1x1_S_ : Vec Ideal S_ .f32) = fun _ => pow2 (scaleExp (refA m c)) := by
  rw [show Cert.ReferenceIdeal.Value.reg_main_v2_4 m c = _ from final7 m c]
  exact funext fun i => k0_pay4_apply (inX m c) _

end Cert.ReferenceIdeal.Gen

/-! ## Both programs agree -/

namespace Cert.Proof

open Idealize.ShloMosaic Idealize.ShloMosaic.TcCoe Idealize.SL.Sem Cert.Math
open Cert.KernelIdeal.Gen (eabs xMat wMat wScale xMax xMax_le yMat z0 z0_eq)
open Cert.ReferenceIdeal.Gen (z11 z11_eq refMaxX refMaxX_le)

/-- Where the precondition holds of the input, the kernel's maximum of x is the reference's. -/
theorem max_eq [Cert.Pre_max_outside_first_block.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_max_outside_first_block m) (c : Dev Cert.KernelIdeal.nD) :
    xMax m ρ c = refMaxX (F := Ideal) (xMat m c) z11 := by
  refine eq_of_forall_ge_iff fun b => (xMax_le m ρ c b).trans (Iff.trans ?_ (refMaxX_le (xMat m c) z11 b).symm)
  constructor
  · rintro ⟨h0, H⟩
    refine (Cert.Maxes.forall_shapeCast (m ((c.tc : Thread Cert.KernelIdeal.nD Cert.KernelIdeal.τ).loc Cert.KernelIdeal.main_arg0)) _ (fun a : EReal => eabs a ≤ b)).mpr ?_
    refine Cert.Pre_max_outside_first_block.bound_of_pre _ _ _ (hpre c) b h0 fun i hi => ?_
    have b0 : (i 0).val < 6 := (i 0).isLt
    have b1 : (i 1).val < 1536 := (i 1).isLt
    have b2 : (i 2).val < 16384 := (i 2).isLt
    have hx := H (ValueIdx.ix2 (⟨(i 0).val * 1536 + (i 1).val, by omega⟩ : Fin 9216) (⟨(i 2).val, b2⟩ : Fin 16384)) (fun hp => hi (by
      have p0 : (i 0).val * 1536 + (i 1).val < 256 := hp.1
      have p1 : (i 2).val < 8192 := hp.2
      omega))
    rw [show xMat m c _ = _ from shapeCast_apply _ _ _ i (by
      rw [Shape.rowMajor_val_three, Shape.rowMajor_val_two]
      show ((i 0).val * 1536 + (i 1).val) * 16384 + (i 2).val = ((i 0).val * 1536 + (i 1).val) * 16384 + (i 2).val
      rfl)] at hx
    exact hx
  · exact fun H => ⟨(Cert.Maxes.absf_nonneg _).trans (H (ValueIdx.ix2 (0 : Fin 9216) (0 : Fin 16384))), fun i _ => H i⟩

section Agree

variable [Cert.Pre_max_outside_first_block.Facts]
  (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal_max_outside_first_block m) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 in
/-- The two programs reshape the same x. -/
theorem x_eq : Cert.ReferenceIdeal.Gen.inX m' c = xMat m c :=
  (Cert.ReferenceIdeal.Gen.inX_eq m' c).trans (congrArg (fun a : Vec Ideal Cert.KernelIdeal.S6x1536x16384 .bf16 =>
    shapeCast Cert.KernelIdeal.S9216x16384 a Cert.KernelIdeal.Gen.shapeCasts_S6x1536x16384_S9216x16384) h0)

include h1 in
/-- The two programs take the same weight codes. -/
theorem w_eq : Cert.ReferenceIdeal.Gen.inW m' c = wMat m c := (Cert.ReferenceIdeal.Gen.V_main_arg1 m' c).trans h1

include h2 in
/-- The two programs take the same weight scale. -/
theorem s_eq : (Cert.ReferenceIdeal.Gen.inS m' c z11 : EReal) = wScale m c :=
  (Cert.ReferenceIdeal.Gen.inS_eq m' c).trans (congrArg (fun a : Vec Ideal Cert.KernelIdeal.S_ .f32 => (a z0 : EReal)) h2)

include hpre h0 in
/-- The two programs' maxima of x agree. -/
theorem A_eq : Cert.ReferenceIdeal.Gen.refA m' c = xMax m ρ c :=
  (congrArg (fun x : Vec Ideal Cert.KernelIdeal.S9216x16384 .bf16 => (refMaxX (F := Ideal) x z11 : EReal)) (x_eq m m' c h0)).trans (max_eq m ρ hpre c).symm

include hpre h0 h1 h2 in
/-- The two programs' products agree. -/
theorem Y_eq : Cert.ReferenceIdeal.Gen.refY m' c = yMat m ρ c := by
  unfold Cert.ReferenceIdeal.Gen.refY Cert.KernelIdeal.Gen.yMat
  rw [x_eq m m' c h0, w_eq m m' c h1, s_eq m m' c h2, A_eq m ρ m' hpre c h0]

include hpre h0 h1 h2 in
/-- The two programs' maxima of the product agree. -/
theorem B_eq : Cert.ReferenceIdeal.Gen.refB m' c = Cert.KernelIdeal.Gen.yMax m ρ c := by
  refine eq_of_forall_ge_iff fun b => (Cert.ReferenceIdeal.Gen.refB_le m' c b).trans (Iff.trans ?_ (Cert.KernelIdeal.Gen.yMax_le m ρ c b).symm)
  rw [Y_eq m ρ m' hpre c h0 h1 h2]
  exact ⟨fun H => ⟨(Cert.Maxes.absf_nonneg _).trans (H (ValueIdx.ix2 (0 : Fin 9216) (0 : Fin 6144))), H⟩, fun H => H.2⟩

end Agree

/-- Equal products with equal maxima have equal codes. -/
theorem codesY_congr {Y Y' : Cert.KernelIdeal.S9216x6144.Idx → EReal} {B B' : EReal} (hY : Y = Y') (hB : B = B') :
    (shapeCast Cert.KernelIdeal.S6x1536x6144 (codesOf Y B) Cert.KernelIdeal.Gen.shapeCasts_S9216x6144_S6x1536x6144)
      = shapeCast Cert.KernelIdeal.S6x1536x6144 (codesOf Y' B') Cert.KernelIdeal.Gen.shapeCasts_S9216x6144_S6x1536x6144 := by
  subst hY hB; rfl

/-- Equal inputs with equal maxima have equal codes. -/
theorem codesX_congr {X X' : Cert.KernelIdeal.S9216x16384.Idx → EReal} {A A' : EReal} (hX : X = X') (hA : A = A') :
    (shapeCast Cert.KernelIdeal.S6x1536x16384 (codesOf X A) Cert.KernelIdeal.Gen.shapeCasts_S9216x16384_S6x1536x16384)
      = shapeCast Cert.KernelIdeal.S6x1536x16384 (codesOf X' A') Cert.KernelIdeal.Gen.shapeCasts_S9216x16384_S6x1536x16384 := by
  subst hX hA; rfl

/-- Equal maxima have equal scales. -/
theorem scale_congr {A A' : EReal} (h : A = A') : (fun _ => pow2 (scaleExp A) : Cert.KernelIdeal.S_.Idx → EReal) = fun _ => pow2 (scaleExp A') := by
  subst h; rfl

/-- Equal numbers fill equal arrays. -/
theorem const_congr {A A' : EReal} (h : A = A') : (fun _ => A : Cert.KernelIdeal.S_.Idx → EReal) = fun _ => A' := by
  subst h; rfl

/-- Where the precondition holds, the kernel and the reference leave the same five results, and their arguments as they were. -/
theorem algebraic [Cert.Pre_max_outside_first_block.Facts] :
    Cert.algebraic_KernelIdeal_ReferenceIdeal_pre_max_outside_first_block := by
  intro m ρ m' ρ' hpre hag
  refine ⟨fun c => Cert.KernelIdeal.Gen.W21 m ρ c (Proc.devRef .tc Cert.KernelIdeal.main_v65), fun c => Cert.KernelIdeal.Gen.W21 m ρ c (Proc.devRef .tc Cert.KernelIdeal.main_v58),
    fun c => Cert.KernelIdeal.Gen.W21 m ρ c (Proc.devRef .tc Cert.KernelIdeal.main_v35), fun c => Cert.KernelIdeal.Gen.W21 m ρ c (Proc.devRef .tc Cert.KernelIdeal.main_v66),
    fun c => Cert.KernelIdeal.Gen.W21 m ρ c (Proc.devRef .tc Cert.KernelIdeal.main_v25), ?_, ?_⟩
  · refine (θ_run _ _ _).mono (fun r h c => ?_) (Cert.KernelIdeal.Gen.run_values m ρ)
    exact ⟨h c _ (Cert.KernelIdeal.Gen.mem_uc Cert.KernelIdeal.main_v65 (by decide)), h c _ (Cert.KernelIdeal.Gen.mem_uc Cert.KernelIdeal.main_v58 (by decide)),
      h c _ (Cert.KernelIdeal.Gen.mem_uc Cert.KernelIdeal.main_v35 (by decide)), h c _ (Cert.KernelIdeal.Gen.mem_uc Cert.KernelIdeal.main_v66 (by decide)),
      h c _ (Cert.KernelIdeal.Gen.mem_uc Cert.KernelIdeal.main_v25 (by decide)),
      (h c _ (Cert.KernelIdeal.Gen.mem_uc Cert.KernelIdeal.main_arg0 (by decide))).trans (Cert.KernelIdeal.Gen.W21_main_arg0 m ρ c),
      (h c _ (Cert.KernelIdeal.Gen.mem_uc Cert.KernelIdeal.main_arg1 (by decide))).trans (Cert.KernelIdeal.Gen.W21_main_arg1 m ρ c),
      (h c _ (Cert.KernelIdeal.Gen.mem_uc Cert.KernelIdeal.main_arg2 (by decide))).trans (Cert.KernelIdeal.Gen.W21_main_arg2 m ρ c)⟩
  · refine (θ_run _ _ _).mono (fun r h c => ?_) (Cert.ReferenceIdeal.Value.run m' ρ')
    obtain ⟨r0, r1, r2, r3, r4, a0, a1, a2⟩ := h c
    obtain ⟨h0, h1, h2⟩ := hag c
    have eX := x_eq m m' c h0
    have eA := A_eq m ρ m' hpre c h0
    have eY := Y_eq m ρ m' hpre c h0 h1 h2
    have eB := B_eq m ρ m' hpre c h0 h1 h2
    refine ⟨r0.trans ?_, r1.trans ?_, r2.trans ?_, r3.trans ?_, r4.trans ?_, a0, a1, a2⟩
    · exact (Cert.ReferenceIdeal.Gen.res0 m' c).trans ((codesY_congr eY eB).trans (Cert.KernelIdeal.Gen.W21_v65 m ρ c).symm)
    · exact (Cert.ReferenceIdeal.Gen.res1 m' c).trans ((scale_congr eB).trans (Cert.KernelIdeal.Gen.W21_v58 m ρ c).symm)
    · exact (Cert.ReferenceIdeal.Gen.res2 m' c).trans ((const_congr eB).trans (Cert.KernelIdeal.Gen.W21_v35 m ρ c).symm)
    · exact (Cert.ReferenceIdeal.Gen.res3 m' c).trans ((codesX_congr eX eA).trans (Cert.KernelIdeal.Gen.W21_v66 m ρ c).symm)
    · exact (Cert.ReferenceIdeal.Gen.res4 m' c).trans ((scale_congr eA).trans (Cert.KernelIdeal.Gen.W21_v25 m ρ c).symm)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_max_outside_first_block.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  @algebraic Cert.Pre_max_outside_first_block.facts⟩

end Cert.Proof

end
